-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_batch_in_order [hPre_batch_in_order : Cert.Pre_batch_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_batch_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_batch_in_order [hPre_batch_in_order : Cert.Pre_batch_in_order.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_batch_in_order.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_batch_in_order [hKernelIdeal : Cert.KernelIdeal.Facts] [hPre_batch_in_order : Cert.Pre_batch_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_batch_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_batch_in_order [hReferenceIdeal : Cert.ReferenceIdeal.Facts] [hPre_batch_in_order : Cert.Pre_batch_in_order.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_batch_in_order m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "sq_floor" .f32 0x179ABE15#32 ((5316911940649 / 5316911983139663491615228241121378304 : ℝ) : EReal)

def algebraic_KernelIdeal_ReferenceIdeal_pre_batch_in_order [hKernelIdeal : Cert.KernelIdeal.Facts] [hReferenceIdeal : Cert.ReferenceIdeal.Facts] [hPre_batch_in_order : Cert.Pre_batch_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_batch_in_order m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v202) = v0 c
          ∧ r.2.mem ((c.tc : Thread Cert.ReferenceIdeal.nD Cert.ReferenceIdeal.τ).loc Cert.ReferenceIdeal.main_v90) = v1 c
          ∧ r.2.mem ((c.tc : Thread Cert.ReferenceIdeal.nD Cert.ReferenceIdeal.τ).loc Cert.ReferenceIdeal.main_v203) = v2 c
          ∧ r.2.mem ((c.tc : Thread Cert.ReferenceIdeal.nD Cert.ReferenceIdeal.τ).loc Cert.ReferenceIdeal.main_v165) = v3 c
          ∧ r.2.mem ((c.tc : Thread Cert.ReferenceIdeal.nD Cert.ReferenceIdeal.τ).loc Cert.ReferenceIdeal.main_v204) = v4 c
          ∧ r.2.mem ((c.tc : Thread Cert.ReferenceIdeal.nD Cert.ReferenceIdeal.τ).loc Cert.ReferenceIdeal.main_v205) = v5 c
          ∧ r.2.mem ((c.tc : Thread Cert.ReferenceIdeal.nD Cert.ReferenceIdeal.τ).loc Cert.ReferenceIdeal.main_v206) = v6 c
          ∧ r.2.mem ((c.tc : Thread Cert.ReferenceIdeal.nD Cert.ReferenceIdeal.τ).loc Cert.ReferenceIdeal.main_v207) = v7 c
          ∧ r.2.mem ((c.tc : Thread Cert.ReferenceIdeal.nD Cert.ReferenceIdeal.τ).loc Cert.ReferenceIdeal.main_v201) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_batch_in_order : Cert.Pre_batch_in_order.Facts),
    quiescent_Kernel (hKernel := hKernel)
    ∧ quiescent_KernelIdeal (hKernelIdeal := hKernelIdeal)
    ∧ quiescent_KernelIdeal_pre_batch_in_order (hKernelIdeal := hKernelIdeal) (hPre_batch_in_order := hPre_batch_in_order)
    ∧ quiescent_ReferenceIdeal (hReferenceIdeal := hReferenceIdeal)
    ∧ quiescent_ReferenceIdeal_pre_batch_in_order (hReferenceIdeal := hReferenceIdeal) (hPre_batch_in_order := hPre_batch_in_order)
    ∧ preserves_Kernel_KernelIdeal
    ∧ algebraic_KernelIdeal_ReferenceIdeal_pre_batch_in_order (hKernelIdeal := hKernelIdeal) (hReferenceIdeal := hReferenceIdeal) (hPre_batch_in_order := hPre_batch_in_order)
-- ==== Pre_batch_in_order.lean ====
abbrev S1024x256 : Shape := ⟨2, ![1024, 256]⟩
abbrev S1024 : Shape := ⟨1, ![1024]⟩
abbrev S1000000 : Shape := ⟨1, ![1000000]⟩
abbrev S_ : Shape := ⟨0, ![]⟩

class Facts : Prop where
  slices_S1000000_S1024_0 : S1000000.Slices ![0] S1024
  bcast_S_S1024 : S_.BroadcastsInDim S1024 (![] : Fin 0 → Fin S1024.rank)

variable [Facts]

def fn {F : FTy → Type} [FloatOps F] (main_arg0 : FVec F S1024x256 .f32) (main_arg1 : FVec F S1024x256 .f32) (main_arg2 : IVec S1024 32) (main_arg3 : FVec F S1000000 .f32) (main_arg4 : FVec F S1000000 .f32) (main_arg5 : FVec F S1000000 .f32) (main_arg6 : FVec F S1000000 .f32) (main_arg7 : FVec F S1000000 .f32) (main_arg8 : FVec F S1000000 .f32) (main_arg9 : FVec F S1000000 .f32) (main_arg10 : FVec F S1000000 .f32) : IVec S1024 1 :=
  let main_v0 : IVec S1024 32 := iotaInDim S1024 32 0
  let main_v1 : IVec S1024 1 := cmpi .eq main_arg2 main_v0
  let main_v2 : FVec F S1024 .f32 := (extractStridedSlice S1024 ![0] · slices_S1000000_S1024_0) main_arg7
  let main_v3 : FVec F S1024 .f32 := (extractStridedSlice S1024 ![0] · slices_S1000000_S1024_0) main_arg8
  let main_cst : FVec F S_ .f32 := constant S_ .f32 0x00000000#32
  let main_v4 : FVec F S1024 .f32 := broadcastInDim S1024 ![] bcast_S_S1024 main_cst
  let main_v5 : IVec S1024 1 := cmpf .ogt main_v2 main_v4
  let main_v6 : IVec S1024 1 := andi main_v1 main_v5
  let main_cst_0 : FVec F S_ .f32 := constant S_ .f32 0x7F800000#32
  let main_v7 : FVec F S1024 .f32 := broadcastInDim S1024 ![] bcast_S_S1024 main_cst_0
  let main_v8 : IVec S1024 1 := cmpf .olt main_v2 main_v7
  let main_v9 : IVec S1024 1 := andi main_v6 main_v8
  let main_cst_1 : FVec F S_ .f32 := constant S_ .f32 0x00000000#32
  let main_v10 : FVec F S1024 .f32 := broadcastInDim S1024 ![] bcast_S_S1024 main_cst_1
  let main_v11 : IVec S1024 1 := cmpf .ogt main_v3 main_v10
  let main_v12 : IVec S1024 1 := andi main_v9 main_v11
  let main_cst_2 : FVec F S_ .f32 := constant S_ .f32 0x7F800000#32
  let main_v13 : FVec F S1024 .f32 := broadcastInDim S1024 ![] bcast_S_S1024 main_cst_2
  let main_v14 : IVec S1024 1 := cmpf .olt main_v3 main_v13
  let main_v15 : IVec S1024 1 := andi main_v12 main_v14
  main_v15
-- ==== Kernel.lean ====
abbrev S1024x256 : Shape := ⟨2, ![1024, 256]⟩
abbrev S1024 : Shape := ⟨1, ![1024]⟩
abbrev S1000000 : Shape := ⟨1, ![1000000]⟩
abbrev S1x1024 : Shape := ⟨2, ![1, 1024]⟩
abbrev S1x128 : Shape := ⟨2, ![1, 128]⟩
abbrev S1024x1 : Shape := ⟨2, ![1024, 1]⟩
abbrev S1024x1024 : Shape := ⟨2, ![1024, 1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 20
  | .vmem => 19
  | .smem => 0
  | _ => 0

abbrev bufTy : (tb : Table) → Fin (tcTables nBuf tb) → BufTy
  | .hbm, ⟨0, _⟩ => ⟨S1024x256, .f32⟩
  | .hbm, ⟨1, _⟩ => ⟨S1024x256, .f32⟩
  | .hbm, ⟨2, _⟩ => ⟨S1024, .i32⟩
  | .hbm, ⟨3, _⟩ => ⟨S1000000, .f32⟩
  | .hbm, ⟨4, _⟩ => ⟨S1000000, .f32⟩
  | .hbm, ⟨5, _⟩ => ⟨S1000000, .f32⟩
  | .hbm, ⟨6, _⟩ => ⟨S1000000, .f32⟩
  | .hbm, ⟨7, _⟩ => ⟨S1000000, .f32⟩
  | .hbm, ⟨8, _⟩ => ⟨S1000000, .f32⟩
  | .hbm, ⟨9, _⟩ => ⟨S1000000, .f32⟩
  | .hbm, ⟨10, _⟩ => ⟨S1000000, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x128, .f32⟩
  | .local _ .vmem, ⟨0, _⟩ => ⟨S1024x256, .f32⟩
  | .local _ .vmem, ⟨1, _⟩ => ⟨S1024x256, .f32⟩
  | .local _ .vmem, ⟨2, _⟩ => ⟨S1024, .f32⟩
  | .local _ .vmem, ⟨3, _⟩ => ⟨S1024, .f32⟩
  | .local _ .vmem, ⟨4, _⟩ => ⟨S1024, .f32⟩
  | .local _ .vmem, ⟨5, _⟩ => ⟨S1024, .f32⟩
  | .local _ .vmem, ⟨6, _⟩ => ⟨S1024, .f32⟩
  | .local _ .vmem, ⟨7, _⟩ => ⟨S1024, .f32⟩
  | .local _ .vmem, ⟨8, _⟩ => ⟨S1024, .f32⟩
  | .local _ .vmem, ⟨9, _⟩ => ⟨S1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x128, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== KernelIdeal.lean ====
variable {F : FTy → Type} [FloatOps F] [Named F]
def κ : String → Option EReal := fun
  | "sq_floor" => some ((5316911940649 / 5316911983139663491615228241121378304 : ℝ) : EReal)
  | _ => none
-- ==== ReferenceIdeal.lean ====
abbrev S1024x256 : Shape := ⟨2, ![1024, 256]⟩
abbrev S1024 : Shape := ⟨1, ![1024]⟩
abbrev S1000000 : Shape := ⟨1, ![1000000]⟩
abbrev S1024x1024 : Shape := ⟨2, ![1024, 1024]⟩
abbrev S_ : Shape := ⟨0, ![]⟩
abbrev S1024x1 : Shape := ⟨2, ![1024, 1]⟩
abbrev S1x1024 : Shape := ⟨2, ![1, 1024]⟩
abbrev S1x1024x1x1 : Shape := ⟨4, ![1, 1024, 1, 1]⟩
abbrev S1x1024x1024x1 : Shape := ⟨4, ![1, 1024, 1024, 1]⟩
abbrev S1x1x1x1024 : Shape := ⟨4, ![1, 1, 1, 1024]⟩
abbrev S1024x1x1x1024 : Shape := ⟨4, ![1024, 1, 1, 1024]⟩
abbrev S1x1 : Shape := ⟨2, ![1, 1]⟩
abbrev S1x126 : Shape := ⟨2, ![1, 126]⟩
abbrev S1x128 : Shape := ⟨2, ![1, 128]⟩

abbrev nBuf : Space → Nat
  | .hbm => 303
  | .vmem => 0
  | .smem => 0
  | _ => 0

abbrev hbmTy0_0 (i : Nat) : BufTy := match i % 128 with
  | 0 => ⟨S1024x256, .f32⟩
  | 1 => ⟨S1024x256, .f32⟩
  | 2 => ⟨S1024, .i32⟩
  | 3 => ⟨S1000000, .f32⟩
  | 4 => ⟨S1000000, .f32⟩
  | 5 => ⟨S1000000, .f32⟩
  | 6 => ⟨S1000000, .f32⟩
  | 7 => ⟨S1000000, .f32⟩
  | 8 => ⟨S1000000, .f32⟩
  | 9 => ⟨S1000000, .f32⟩
  | 10 => ⟨S1000000, .f32⟩
  | 11 => ⟨S1024x1024, .i32⟩
  | 12 => ⟨S1024x1024, .i32⟩
  | 13 => ⟨S_, .i32⟩
  | 14 => ⟨S1024x1024, .i32⟩
  | 15 => ⟨S1024x1024, .i32⟩
  | 16 => ⟨S1024x1024, .i1⟩
  | 17 => ⟨S1024x1024, .f32⟩
  | 18 => ⟨S_, .f32⟩
  | 19 => ⟨S1024x1024, .f32⟩
  | 20 => ⟨S1024x1024, .f32⟩
  | 21 => ⟨S1024x256, .f32⟩
  | 22 => ⟨S_, .f32⟩
  | 23 => ⟨S1024, .f32⟩
  | 24 => ⟨S1024x1, .f32⟩
  | 25 => ⟨S1024x1, .f32⟩
  | 26 => ⟨S_, .f32⟩
  | 27 => ⟨S_, .f32⟩
  | 28 => ⟨S1024x1, .f32⟩
  | 29 => ⟨S1024x1, .f32⟩
  | 30 => ⟨S1024x256, .f32⟩
  | 31 => ⟨S1024x256, .f32⟩
  | 32 => ⟨S1024x256, .f32⟩
  | 33 => ⟨S_, .f32⟩
  | 34 => ⟨S1024, .f32⟩
  | 35 => ⟨S1024x1, .f32⟩
  | 36 => ⟨S1024x1, .f32⟩
  | 37 => ⟨S_, .f32⟩
  | 38 => ⟨S_, .f32⟩
  | 39 => ⟨S1024x1, .f32⟩
  | 40 => ⟨S1024x1, .f32⟩
  | 41 => ⟨S1024x256, .f32⟩
  | 42 => ⟨S1024x256, .f32⟩
  | 43 => ⟨S1024x1024, .f32⟩
  | 44 => ⟨S1024x1024, .i32⟩
  | 45 => ⟨S1024x1024, .i32⟩
  | 46 => ⟨S_, .i32⟩
  | 47 => ⟨S1024x1024, .i32⟩
  | 48 => ⟨S1024x1024, .i32⟩
  | 49 => ⟨S1024x1024, .i1⟩
  | 50 => ⟨S1024x1024, .f32⟩
  | 51 => ⟨S1024x1024, .f32⟩
  | 52 => ⟨S_, .f32⟩
  | 53 => ⟨S1024, .f32⟩
  | 54 => ⟨S1024x1, .f32⟩
  | 55 => ⟨S1024x1024, .f32⟩
  | 56 => ⟨S1024x1024, .f32⟩
  | 57 => ⟨S1x1024, .f32⟩
  | 58 => ⟨S1024x1024, .f32⟩
  | 59 => ⟨S1024x1024, .f32⟩
  | 60 => ⟨S_, .i32⟩
  | 61 => ⟨S1024, .i32⟩
  | 62 => ⟨S1024, .i1⟩
  | 63 => ⟨S_, .i32⟩
  | 64 => ⟨S1024, .i32⟩
  | 65 => ⟨S1024, .i32⟩
  | 66 => ⟨S1024, .i32⟩
  | 67 => ⟨S1024x1, .i32⟩
  | 68 => ⟨S1024, .f32⟩
  | 69 => ⟨S_, .i32⟩
  | 70 => ⟨S1024, .i32⟩
  | 71 => ⟨S1024, .i1⟩
  | 72 => ⟨S_, .i32⟩
  | 73 => ⟨S1024, .i32⟩
  | 74 => ⟨S1024, .i32⟩
  | 75 => ⟨S1024, .i32⟩
  | 76 => ⟨S1024x1, .i32⟩
  | 77 => ⟨S1024, .f32⟩
  | 78 => ⟨S1024x1, .f32⟩
  | 79 => ⟨S1024x1024, .f32⟩
  | 80 => ⟨S1024x1024, .f32⟩
  | 81 => ⟨S1x1024, .f32⟩
  | 82 => ⟨S1024x1024, .f32⟩
  | 83 => ⟨S1024x1024, .f32⟩
  | 84 => ⟨S_, .i32⟩
  | 85 => ⟨S1024, .i32⟩
  | 86 => ⟨S1024, .i1⟩
  | 87 => ⟨S_, .i32⟩
  | 88 => ⟨S1024, .i32⟩
  | 89 => ⟨S1024, .i32⟩
  | 90 => ⟨S1024, .i32⟩
  | 91 => ⟨S1024x1, .i32⟩
  | 92 => ⟨S1024, .f32⟩
  | 93 => ⟨S1024x1, .f32⟩
  | 94 => ⟨S1x1024x1x1, .f32⟩
  | 95 => ⟨S1x1024x1024x1, .f32⟩
  | 96 => ⟨S1024x1024, .f32⟩
  | 97 => ⟨S1024x1024, .f32⟩
  | 98 => ⟨S_, .f32⟩
  | 99 => ⟨S1024, .f32⟩
  | 100 => ⟨S_, .i32⟩
  | 101 => ⟨S1024, .i32⟩
  | 102 => ⟨S1024, .i1⟩
  | 103 => ⟨S_, .i32⟩
  | 104 => ⟨S1024, .i32⟩
  | 105 => ⟨S1024, .i32⟩
  | 106 => ⟨S1024, .i32⟩
  | 107 => ⟨S1024x1, .i32⟩
  | 108 => ⟨S1024, .f32⟩
  | 109 => ⟨S1x1024, .f32⟩
  | 110 => ⟨S1x1x1x1024, .f32⟩
  | 111 => ⟨S1024x1x1x1024, .f32⟩
  | 112 => ⟨S1024x1024, .f32⟩
  | 113 => ⟨S1024x1024, .f32⟩
  | 114 => ⟨S_, .f32⟩
  | 115 => ⟨S1024, .f32⟩
  | 116 => ⟨S1024x1, .f32⟩
  | 117 => ⟨S1024x1024, .f32⟩
  | 118 => ⟨S1024x1024, .f32⟩
  | 119 => ⟨S1024x1024, .f32⟩
  | 120 => ⟨S1024x1024, .f32⟩
  | 121 => ⟨S1x1024, .f32⟩
  | 122 => ⟨S1024x1024, .f32⟩
  | 123 => ⟨S1024x1024, .f32⟩
  | 124 => ⟨S1024x1024, .f32⟩
  | 125 => ⟨S1024x1024, .f32⟩
  | 126 => ⟨S_, .f32⟩
  | 127 => ⟨S1024, .f32⟩
  | _ => ⟨S1024x256, .f32⟩

abbrev hbmTy0_1 (i : Nat) : BufTy := match i % 128 with
  | 0 => ⟨S1024x1, .f32⟩
  | 1 => ⟨S_, .f32⟩
  | 2 => ⟨S1024, .f32⟩
  | 3 => ⟨S1x1024, .f32⟩
  | 4 => ⟨S_, .i32⟩
  | 5 => ⟨S1024, .i32⟩
  | 6 => ⟨S1024, .i1⟩
  | 7 => ⟨S_, .i32⟩
  | 8 => ⟨S1024, .i32⟩
  | 9 => ⟨S1024, .i32⟩
  | 10 => ⟨S1024, .i32⟩
  | 11 => ⟨S1024x1, .i32⟩
  | 12 => ⟨S1024, .f32⟩
  | 13 => ⟨S_, .f32⟩
  | 14 => ⟨S1024, .f32⟩
  | 15 => ⟨S1024, .f32⟩
  | 16 => ⟨S1024, .f32⟩
  | 17 => ⟨S1024, .f32⟩
  | 18 => ⟨S1024, .f32⟩
  | 19 => ⟨S1024, .f32⟩
  | 20 => ⟨S_, .f32⟩
  | 21 => ⟨S1024, .f32⟩
  | 22 => ⟨S1024, .f32⟩
  | 23 => ⟨S1024, .f32⟩
  | 24 => ⟨S_, .i32⟩
  | 25 => ⟨S1024, .i32⟩
  | 26 => ⟨S1024, .i1⟩
  | 27 => ⟨S_, .i32⟩
  | 28 => ⟨S1024, .i32⟩
  | 29 => ⟨S1024, .i32⟩
  | 30 => ⟨S1024, .i32⟩
  | 31 => ⟨S1024x1, .i32⟩
  | 32 => ⟨S1024, .f32⟩
  | 33 => ⟨S_, .f32⟩
  | 34 => ⟨S1024, .f32⟩
  | 35 => ⟨S1024, .f32⟩
  | 36 => ⟨S1024, .f32⟩
  | 37 => ⟨S1024, .f32⟩
  | 38 => ⟨S1024, .f32⟩
  | 39 => ⟨S1024, .f32⟩
  | 40 => ⟨S_, .f32⟩
  | 41 => ⟨S1024, .f32⟩
  | 42 => ⟨S1024, .f32⟩
  | 43 => ⟨S1024, .f32⟩
  | 44 => ⟨S1024x1, .f32⟩
  | 45 => ⟨S_, .f32⟩
  | 46 => ⟨S_, .f32⟩
  | 47 => ⟨S1024x1, .f32⟩
  | 48 => ⟨S1024x1, .f32⟩
  | 49 => ⟨S1x1024, .f32⟩
  | 50 => ⟨S_, .f32⟩
  | 51 => ⟨S_, .f32⟩
  | 52 => ⟨S1x1024, .f32⟩
  | 53 => ⟨S1x1024, .f32⟩
  | 54 => ⟨S1024x1024, .f32⟩
  | 55 => ⟨S1024x1024, .f32⟩
  | 56 => ⟨S1024x1024, .f32⟩
  | 57 => ⟨S1024x1024, .f32⟩
  | 58 => ⟨S1024x1024, .f32⟩
  | 59 => ⟨S_, .f32⟩
  | 60 => ⟨S1024, .f32⟩
  | 61 => ⟨S1024x1, .f32⟩
  | 62 => ⟨S1024x1024, .f32⟩
  | 63 => ⟨S_, .f32⟩
  | 64 => ⟨S1024, .f32⟩
  | 65 => ⟨S1x1024, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S1024x1, .f32⟩
  | 80 => ⟨S1024x1, .f32⟩
  | 81 => ⟨S1024x1, .f32⟩
  | 82 => ⟨S_, .f32⟩
  | 83 => ⟨S1024x1, .f32⟩
  | 84 => ⟨S1024x1, .f32⟩
  | 85 => ⟨S1024x1024, .f32⟩
  | 86 => ⟨S_, .f32⟩
  | 87 => ⟨S1024, .f32⟩
  | 88 => ⟨S1024x1, .f32⟩
  | 89 => ⟨S_, .f32⟩
  | 90 => ⟨S1024x1, .f32⟩
  | 91 => ⟨S1024x1, .f32⟩
  | 92 => ⟨S1024x1, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1024x1024, .f32⟩
  | 100 => ⟨S_, .f32⟩
  | 101 => ⟨S1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .i32⟩
  | 108 => ⟨S1024, .i32⟩
  | 109 => ⟨S1024, .i1⟩
  | 110 => ⟨S_, .i32⟩
  | 111 => ⟨S1024, .i32⟩
  | 112 => ⟨S1024, .i32⟩
  | 113 => ⟨S1024, .i32⟩
  | 114 => ⟨S1024x1, .i32⟩
  | 115 => ⟨S1024, .f32⟩
  | 116 => ⟨S_, .f32⟩
  | 117 => ⟨S1024, .f32⟩
  | 118 => ⟨S1024, .f32⟩
  | 119 => ⟨S1024, .f32⟩
  | 120 => ⟨S_, .f32⟩
  | 121 => ⟨S_, .f32⟩
  | 122 => ⟨S_, .f32⟩
  | 123 => ⟨S1024, .f32⟩
  | 124 => ⟨S1024, .f32⟩
  | 125 => ⟨S_, .f32⟩
  | 126 => ⟨S1024, .f32⟩
  | 127 => ⟨S1024, .f32⟩
  | _ => ⟨S1024x256, .f32⟩

abbrev hbmTy0_2 (i : Nat) : BufTy := match i % 128 with
  | 0 => ⟨S_, .f32⟩
  | 1 => ⟨S1024, .f32⟩
  | 2 => ⟨S1024, .f32⟩
  | 3 => ⟨S1024, .f32⟩
  | 4 => ⟨S_, .i32⟩
  | 5 => ⟨S1024, .i32⟩
  | 6 => ⟨S1024, .i1⟩
  | 7 => ⟨S_, .i32⟩
  | 8 => ⟨S1024, .i32⟩
  | 9 => ⟨S1024, .i32⟩
  | 10 => ⟨S1024, .i32⟩
  | 11 => ⟨S1024x1, .i32⟩
  | 12 => ⟨S1024, .f32⟩
  | 13 => ⟨S_, .f32⟩
  | 14 => ⟨S1024, .f32⟩
  | 15 => ⟨S1024, .f32⟩
  | 16 => ⟨S1024, .f32⟩
  | 17 => ⟨S_, .f32⟩
  | 18 => ⟨S_, .f32⟩
  | 19 => ⟨S_, .f32⟩
  | 20 => ⟨S1024, .f32⟩
  | 21 => ⟨S1024, .f32⟩
  | 22 => ⟨S_, .f32⟩
  | 23 => ⟨S1024, .f32⟩
  | 24 => ⟨S1024, .f32⟩
  | 25 => ⟨S_, .f32⟩
  | 26 => ⟨S1024, .f32⟩
  | 27 => ⟨S1024, .f32⟩
  | 28 => ⟨S1024, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S1x1, .f32⟩
  | 38 => ⟨S1x1, .f32⟩
  | 39 => ⟨S1x126, .f32⟩
  | 40 => ⟨S1x128, .f32⟩
  | 41 => ⟨S1x1024, .f32⟩
  | 42 => ⟨S1x1024, .f32⟩
  | 43 => ⟨S1x1024, .f32⟩
  | 44 => ⟨S1x1024, .f32⟩
  | 45 => ⟨S1x1024, .f32⟩
  | 46 => ⟨S1x1024, .f32⟩
  | _ => ⟨S1024x256, .f32⟩

abbrev hbmTy (i : Nat) : BufTy := match i / 128 with
  | 0 => hbmTy0_0 i
  | 1 => hbmTy0_1 i
  | 2 => hbmTy0_2 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_call0_v2 : Ref sig .tc := ⟨.hbm, 24, rfl⟩
abbrev main_v8 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_call2_v0 : Ref sig .tc := ⟨.hbm, 32, rfl⟩
abbrev main_call2_cst : Ref sig .tc := ⟨.hbm, 33, rfl⟩
abbrev main_call2_v1 : Ref sig .tc := ⟨.hbm, 34, rfl⟩
abbrev main_call2_v2 : Ref sig .tc := ⟨.hbm, 35, rfl⟩
abbrev main_v12 : Ref sig .tc := ⟨.hbm, 36, rfl⟩
abbrev main_cst_1 : Ref sig .tc := ⟨.hbm, 37, rfl⟩
abbrev main_call3_v0 : Ref sig .tc := ⟨.hbm, 38, rfl⟩
abbrev main_call3_v1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_2 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_cst_3 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_c_4 : Ref sig .tc := ⟨.hbm, 60, rfl⟩
abbrev main_v31 : Ref sig .tc := ⟨.hbm, 61, rfl⟩
abbrev main_v32 : Ref sig .tc := ⟨.hbm, 62, rfl⟩
abbrev main_c_5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_6 : Ref sig .tc := ⟨.hbm, 69, rfl⟩
abbrev main_v38 : Ref sig .tc := ⟨.hbm, 70, rfl⟩
abbrev main_v39 : Ref sig .tc := ⟨.hbm, 71, rfl⟩
abbrev main_c_7 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_c_8 : Ref sig .tc := ⟨.hbm, 84, rfl⟩
abbrev main_v51 : Ref sig .tc := ⟨.hbm, 85, rfl⟩
abbrev main_v52 : Ref sig .tc := ⟨.hbm, 86, rfl⟩
abbrev main_c_9 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_10 : Ref sig .tc := ⟨.hbm, 98, rfl⟩
abbrev main_v63 : Ref sig .tc := ⟨.hbm, 99, rfl⟩
abbrev main_c_11 : Ref sig .tc := ⟨.hbm, 100, rfl⟩
abbrev main_v64 : Ref sig .tc := ⟨.hbm, 101, rfl⟩
abbrev main_v65 : Ref sig .tc := ⟨.hbm, 102, rfl⟩
abbrev main_c_12 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_13 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_14 : Ref sig .tc := ⟨.hbm, 126, rfl⟩
abbrev main_v87 : Ref sig .tc := ⟨.hbm, 127, rfl⟩
abbrev main_v88 : Ref sig .tc := ⟨.hbm, 128, rfl⟩
abbrev main_cst_15 : Ref sig .tc := ⟨.hbm, 129, rfl⟩
abbrev main_v89 : Ref sig .tc := ⟨.hbm, 130, rfl⟩
abbrev main_v90 : Ref sig .tc := ⟨.hbm, 131, rfl⟩
abbrev main_c_16 : Ref sig .tc := ⟨.hbm, 132, rfl⟩
abbrev main_v91 : Ref sig .tc := ⟨.hbm, 133, rfl⟩
abbrev main_v92 : Ref sig .tc := ⟨.hbm, 134, rfl⟩
abbrev main_c_17 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_cst_18 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_19 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_c_20 : Ref sig .tc := ⟨.hbm, 152, rfl⟩
abbrev main_v107 : Ref sig .tc := ⟨.hbm, 153, rfl⟩
abbrev main_v108 : Ref sig .tc := ⟨.hbm, 154, rfl⟩
abbrev main_c_21 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_cst_22 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_23 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_cst_24 : Ref sig .tc := ⟨.hbm, 173, rfl⟩
abbrev main_call4_v0 : Ref sig .tc := ⟨.hbm, 174, rfl⟩
abbrev main_call4_v1 : Ref sig .tc := ⟨.hbm, 175, rfl⟩
abbrev main_v124 : Ref sig .tc := ⟨.hbm, 176, rfl⟩
abbrev main_v125 : Ref sig .tc := ⟨.hbm, 177, rfl⟩
abbrev main_cst_25 : Ref sig .tc := ⟨.hbm, 178, rfl⟩
abbrev main_call5_v0 : Ref sig .tc := ⟨.hbm, 179, rfl⟩
abbrev main_call5_v1 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_cst_26 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_27 : Ref sig .tc := ⟨.hbm, 191, rfl⟩
abbrev main_v135 : Ref sig .tc := ⟨.hbm, 192, rfl⟩
abbrev main_v136 : Ref sig .tc := ⟨.hbm, 193, rfl⟩
abbrev main_cst_28 : Ref sig .tc := ⟨.hbm, 194, rfl⟩
abbrev main_v137 : Ref sig .tc := ⟨.hbm, 195, rfl⟩
abbrev main_cst_29 : Ref sig .tc := ⟨.hbm, 196, rfl⟩
abbrev main_v138 : Ref sig .tc := ⟨.hbm, 197, rfl⟩
abbrev main_cst_30 : Ref sig .tc := ⟨.hbm, 198, rfl⟩
abbrev main_v139 : Ref sig .tc := ⟨.hbm, 199, rfl⟩
abbrev main_cst_31 : Ref sig .tc := ⟨.hbm, 200, rfl⟩
abbrev main_v140 : Ref sig .tc := ⟨.hbm, 201, rfl⟩
abbrev main_cst_32 : Ref sig .tc := ⟨.hbm, 202, rfl⟩
abbrev main_v141 : Ref sig .tc := ⟨.hbm, 203, rfl⟩
abbrev main_cst_33 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_cst_34 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_cst_35 : Ref sig .tc := ⟨.hbm, 214, rfl⟩
abbrev main_v150 : Ref sig .tc := ⟨.hbm, 215, rfl⟩
abbrev main_v151 : Ref sig .tc := ⟨.hbm, 216, rfl⟩
abbrev main_cst_36 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_cst_37 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_cst_38 : Ref sig .tc := ⟨.hbm, 228, rfl⟩
abbrev main_v161 : Ref sig .tc := ⟨.hbm, 229, rfl⟩
abbrev main_v162 : Ref sig .tc := ⟨.hbm, 230, rfl⟩
abbrev main_cst_39 : Ref sig .tc := ⟨.hbm, 231, rfl⟩
abbrev main_v163 : Ref sig .tc := ⟨.hbm, 232, rfl⟩
abbrev main_v164 : Ref sig .tc := ⟨.hbm, 233, rfl⟩
abbrev main_v165 : Ref sig .tc := ⟨.hbm, 234, rfl⟩
abbrev main_c_40 : Ref sig .tc := ⟨.hbm, 235, rfl⟩
abbrev main_v166 : Ref sig .tc := ⟨.hbm, 236, rfl⟩
abbrev main_v167 : Ref sig .tc := ⟨.hbm, 237, rfl⟩
abbrev main_c_41 : Ref sig .tc := ⟨.hbm, 238, rfl⟩
abbrev main_v168 : Ref sig .tc := ⟨.hbm, 239, rfl⟩
abbrev main_v169 : Ref sig .tc := ⟨.hbm, 240, rfl⟩
abbrev main_v170 : Ref sig .tc := ⟨.hbm, 241, rfl⟩
abbrev main_v171 : Ref sig .tc := ⟨.hbm, 242, rfl⟩
abbrev main_v172 : Ref sig .tc := ⟨.hbm, 243, rfl⟩
abbrev main_cst_42 : Ref sig .tc := ⟨.hbm, 244, rfl⟩
abbrev main_v173 : Ref sig .tc := ⟨.hbm, 245, rfl⟩
abbrev main_v174 : Ref sig .tc := ⟨.hbm, 246, rfl⟩
abbrev main_v175 : Ref sig .tc := ⟨.hbm, 247, rfl⟩
abbrev main_cst_43 : Ref sig .tc := ⟨.hbm, 248, rfl⟩
abbrev main_cst_44 : Ref sig .tc := ⟨.hbm, 249, rfl⟩
abbrev main_call6_v0 : Ref sig .tc := ⟨.hbm, 250, rfl⟩
abbrev main_call6_v1 : Ref sig .tc := ⟨.hbm, 251, rfl⟩
abbrev main_call6_v2 : Ref sig .tc := ⟨.hbm, 252, rfl⟩
abbrev main_call6_v3 : Ref sig .tc := ⟨.hbm, 253, rfl⟩
abbrev main_call6_v4 : Ref sig .tc := ⟨.hbm, 254, rfl⟩
abbrev main_v176 : Ref sig .tc := ⟨.hbm, 255, rfl⟩
abbrev main_cst_45 : Ref sig .tc := ⟨.hbm, 256, rfl⟩
abbrev main_v177 : Ref sig .tc := ⟨.hbm, 257, rfl⟩
abbrev main_v178 : Ref sig .tc := ⟨.hbm, 258, rfl⟩
abbrev main_v179 : Ref sig .tc := ⟨.hbm, 259, rfl⟩
abbrev main_c_46 : Ref sig .tc := ⟨.hbm, 260, rfl⟩
abbrev main_v180 : Ref sig .tc := ⟨.hbm, 261, rfl⟩
abbrev main_v181 : Ref sig .tc := ⟨.hbm, 262, rfl⟩
abbrev main_c_47 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_cst_48 : Ref sig .tc := ⟨.hbm, 269, rfl⟩
abbrev main_v187 : Ref sig .tc := ⟨.hbm, 270, rfl⟩
abbrev main_v188 : Ref sig .tc := ⟨.hbm, 271, rfl⟩
abbrev main_v189 : Ref sig .tc := ⟨.hbm, 272, rfl⟩
abbrev main_cst_49 : Ref sig .tc := ⟨.hbm, 273, rfl⟩
abbrev main_cst_50 : Ref sig .tc := ⟨.hbm, 274, rfl⟩
abbrev main_call7_v0 : Ref sig .tc := ⟨.hbm, 275, rfl⟩
abbrev main_call7_v1 : Ref sig .tc := ⟨.hbm, 276, rfl⟩
abbrev main_call7_v2 : Ref sig .tc := ⟨.hbm, 277, rfl⟩
abbrev main_call7_v3 : Ref sig .tc := ⟨.hbm, 278, rfl⟩
abbrev main_call7_v4 : Ref sig .tc := ⟨.hbm, 279, rfl⟩
abbrev main_v190 : Ref sig .tc := ⟨.hbm, 280, rfl⟩
abbrev main_cst_51 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_cst_52 : Ref sig .tc := ⟨.hbm, 285, rfl⟩
abbrev main_v194 : Ref sig .tc := ⟨.hbm, 286, rfl⟩
abbrev main_cst_53 : Ref sig .tc := ⟨.hbm, 287, rfl⟩
abbrev main_v195 : Ref sig .tc := ⟨.hbm, 288, rfl⟩
abbrev main_cst_54 : Ref sig .tc := ⟨.hbm, 289, rfl⟩
abbrev main_v196 : Ref sig .tc := ⟨.hbm, 290, rfl⟩
abbrev main_cst_55 : Ref sig .tc := ⟨.hbm, 291, rfl⟩
abbrev main_v197 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_v206 : Ref sig .tc := ⟨.hbm, 301, rfl⟩
abbrev main_v207 : Ref sig .tc := ⟨.hbm, 302, rfl⟩

abbrev nD : Nat := 1
abbrev τ : Topo := Topo.v7x

variable {F : FTy → Type} [FloatOps F]
-- ==== Proof.Consts.lean ====
/-
  The values of the words both programs read as numbers.
-/
module

public import Idealize.ShloMosaic.PureOps.Ideal

@[expose] public section

noncomputable section

namespace Cert.Consts

open Idealize.ShloMosaic

/-- The word of minus infinity is the bottom. -/
theorem ofBits_neg_inf : Ideal.ofBits .f32 0xFF800000#32 = ⊥ := by
  simp [Ideal.ofBits, Ideal.ieee, -EReal.coe_mul]

/-- The word of plus infinity is the top. -/
theorem ofBits_inf : Ideal.ofBits .f32 0x7F800000#32 = ⊤ := by
  simp [Ideal.ofBits, Ideal.ieee, -EReal.coe_mul]

/-- The floor of the normaliser is positive. -/
theorem eps_pos : 0 < Ideal.ofBits .f32 0x283424DC#32 := by
  simp [Ideal.ofBits, Ideal.ieee, -EReal.coe_mul]

/-- The word of one half is a real. -/
theorem half_real : ∃ r : ℝ, Ideal.ofBits .f32 0x3F000000#32 = r := by
  refine ⟨1 / 2, ?_⟩
  simp [Ideal.ofBits, Ideal.ieee, -EReal.coe_mul]; norm_num

/-- The word of 1024 is that real. -/
theorem rows_real : ∃ r : ℝ, r ≠ 0 ∧ Ideal.ofBits .f32 0x44800000#32 = r := by
  refine ⟨1024, by norm_num, ?_⟩
  simp [Ideal.ofBits, Ideal.ieee, -EReal.coe_mul]; norm_num

/-- The floor of a norm, as the real its word holds. -/
def floor : ℝ := 2305843 / 2 ^ 61

/-- The floor of a norm is positive. -/
theorem floor_pos : 0 < floor := by unfold floor; positivity

/-- The word of the floor of a norm. -/
theorem ofBits_floor : Ideal.ofBits .f32 0x2B8CBCCC#32 = (floor : EReal) := by
  unfold floor
  simp [Ideal.ofBits, Ideal.ieee, -EReal.coe_mul]; norm_num

end Cert.Consts

end
-- ==== Proof.Pre.lean ====
/-
  What the precondition says of the argument arrays: the identifiers count the rows, and the temperatures of the batch
  are positive and finite.
-/
module

public import proofs.«01_k».proof.Defs
public import proofs.«01_k».proof.Proof.Consts
public import Idealize.ShloMosaic.Lib.Pointwise
public import Idealize.ShloMosaic.Lib.StableHlo.Predicate

@[expose] public section

noncomputable section

namespace Cert.Pre

open Idealize.ShloMosaic Idealize.ShloMosaic.Pointwise Cert.Pre_batch_in_order

/-- The side conditions the precondition's operations take. -/
theorem facts : Cert.Pre_batch_in_order.Facts where
  slices_S1000000_S1024_0 := by decide
  bcast_S_S1024 := by decide

/-- A conjunction of two bits is set where both are. -/
theorem andi_eq_one {a b : BitVec 1} : IntOp.andi a b = 1#1 ↔ a = 1#1 ∧ b = 1#1 := by
  revert a b; decide

/-- At every row of the batch: its identifier is its number, and its two temperatures are positive and finite. -/
theorem decode [Cert.Pre_batch_in_order.Facts] (x0 x1 : FVec Ideal S1024x256 .f32) (x2 : IVec S1024 32)
    (x3 x4 x5 x6 x7 x8 x9 x10 : FVec Ideal S1000000 .f32)
    (h : fn (F := Ideal) x0 x1 x2 x3 x4 x5 x6 x7 x8 x9 x10 = fun _ => 1#1) (p : Fin 1024) :
    x2 (ix1 p) = BitVec.ofNat 32 p.val
      ∧ (0 < x7 (ix1 ⟨p.val, by omega⟩) ∧ x7 (ix1 ⟨p.val, by omega⟩) < ⊤)
      ∧ (0 < x8 (ix1 ⟨p.val, by omega⟩) ∧ x8 (ix1 ⟨p.val, by omega⟩) < ⊤) := by
  have hp := congrFun h (ix1 p)
  unfold fn at hp
  dsimp only at hp
  revert hp
  pointwise []
  simp only [andi_eq_one, StableHlo.Predicate.cmpi_eq_iff, StableHlo.Predicate.ofBool_eq_one_iff, decide_eq_true_eq,
    Consts.ofBits_inf]
  rintro ⟨⟨⟨⟨h1, h2⟩, h3⟩, h4⟩, h5⟩
  exact ⟨h1, ⟨h2, h3⟩, h4, h5⟩

end Cert.Pre

end
-- ==== Proof.Column.lean ====
/-
  The mathematics of one column of the loss, over the extended reals, free of any program.

  Both programs take, for one row or column of the similarity matrix, the entries `a k`, the diagonal entry `d`, the
  temperature `τ`, and the state kept from earlier batches: the running maximum `β` and the running normaliser `s`.
  The kernel works with `u k = a k / τ - (d / τ + b)` and leaves the diagonal out of its sums afterwards; the reference
  works with the differences `(a k - d) / τ` and multiplies by a mask that is zero on the diagonal. The two agree when
  the entries are real and the temperature is a positive real: `β` and `s` may be anything.
-/
module

public import Idealize.ShloMosaic.PureOps.Ideal

@[expose] public section

noncomputable section

namespace Cert.Column

open Idealize.ShloMosaic

variable {n : Nat}

/-! ## The kernel's form -/

/-- The kernel's new running maximum: the greatest entry scaled, less the diagonal scaled, against the old one. -/
def kB (a : Fin n → EReal) (d τ β : EReal) : EReal :=
  max (Finset.univ.fold max ⊥ a * Ideal.div 1 τ - d * Ideal.div 1 τ) β

/-- The kernel's exponent at entry `k`. -/
def kU (a : Fin n → EReal) (d τ β : EReal) (k : Fin n) : EReal :=
  a k * Ideal.div 1 τ - (d * Ideal.div 1 τ + kB a d τ β)

/-- The kernel's sum of exponentials, the diagonal included. -/
def kSum (a : Fin n → EReal) (d τ β : EReal) : EReal := ∑ k, Ideal.exp (kU a d τ β k)

/-- The kernel's sum of exponentials off the diagonal. -/
def kG (a : Fin n → EReal) (d τ β : EReal) : EReal := kSum a d τ β - Ideal.exp (0 - kB a d τ β)

/-- The kernel's new normaliser: the old one decayed by `p` and rescaled, and `q` of the new sum. -/
def kS (a : Fin n → EReal) (d τ β p q s : EReal) : EReal :=
  p * s * Ideal.exp (β - kB a d τ β) + q * kG a d τ β

/-- The kernel's weighted sum of the scaled differences. -/
def kW (a : Fin n → EReal) (d τ β p q ε s : EReal) : EReal :=
  Ideal.div (∑ k, Ideal.exp (kU a d τ β k) * kU a d τ β k + kB a d τ β * kSum a d τ β) (max (kS a d τ β p q s) ε)

/-- The kernel's loss at this column. -/
def kL (a : Fin n → EReal) (d τ β p q ε s : EReal) : EReal := τ * kW a d τ β p q ε s

/-- The kernel's temperature gradient at this column. -/
def kD (a : Fin n → EReal) (d τ β p q ε ρ N s : EReal) : EReal :=
  Ideal.log (max (kS a d τ β p q s) ε) + kB a d τ β + ρ - Ideal.div (kW a d τ β p q ε s) N

/-! ## The reference's form -/

/-- The reference's scaled difference at entry `k`. -/
def rT (a : Fin n → EReal) (d τ : EReal) (k : Fin n) : EReal := Ideal.div (a k - d) τ

/-- The reference's new running maximum. -/
def rB (a : Fin n → EReal) (d τ β : EReal) : EReal := Finset.univ.fold max ⊥ fun k => max (rT a d τ k) β

/-- The reference's masked exponential at entry `k`. -/
def rE (a : Fin n → EReal) (i : Fin n) (d τ β : EReal) (k : Fin n) : EReal :=
  Ideal.exp (rT a d τ k - rB a d τ β) * (1 - if k = i then 1 else 0)

/-- The reference's sum of masked exponentials. -/
def rG (a : Fin n → EReal) (i : Fin n) (d τ β : EReal) : EReal := ∑ k, rE a i d τ β k

/-- The reference's new normaliser. -/
def rS (a : Fin n → EReal) (i : Fin n) (d τ β p q s : EReal) : EReal :=
  p * s * Ideal.exp (β - rB a d τ β) + q * rG a i d τ β

/-- The reference's weight of entry `k`. -/
def rW (a : Fin n → EReal) (i : Fin n) (d τ β p q ε s : EReal) (k : Fin n) : EReal :=
  Ideal.div (rE a i d τ β k) (max ε (rS a i d τ β p q s))

/-- The reference's loss at this column. -/
def rL (a : Fin n → EReal) (i : Fin n) (d τ β p q ε s : EReal) : EReal :=
  ∑ k, rW a i d τ β p q ε s k * (a k - d)

/-- The reference's temperature gradient at this column. -/
def rD (a : Fin n → EReal) (i : Fin n) (d τ β p q ε ρ N s : EReal) : EReal :=
  Ideal.log (max ε (rS a i d τ β p q s)) + rB a d τ β + ρ
    - Ideal.div (∑ k, rW a i d τ β p q ε s k * rT a d τ k) N

/-! ## They agree -/

/-- A finite sum of reals, summed as extended reals, is the real sum. -/
theorem sum_coe {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The maximum of two reals, taken in the extended reals. -/
theorem coe_max' (a b : ℝ) : max (a : EReal) (b : EReal) = ((max a b : ℝ) : EReal) :=
  (EReal.coe_strictMono.monotone.map_max (a := a) (b := b)).symm

/-- A running maximum from the bottom is attained where every other term is below. -/
theorem fold_max_eq {f : Fin n → EReal} {j : Fin n} (h : ∀ k, f k ≤ f j) : Finset.univ.fold max ⊥ f = f j :=
  le_antisymm ((Finset.fold_max_le _).mpr ⟨bot_le, fun k _ => h k⟩)
    ((Finset.le_fold_max _).mpr (.inr ⟨j, Finset.mem_univ j, le_rfl⟩))

/-- Division by something positive is the product with a nonnegative real, whatever is divided. -/
theorem exists_div_eq {x : EReal} (h : 0 < x) : ∃ q : ℝ, ∀ y, Ideal.div y x = y * (q : EReal) := by
  induction x with
  | bot => exact absurd h (by simp)
  | top => exact ⟨0, fun y => by simp [Ideal.div]⟩
  | coe r =>
    have hr : r ≠ 0 := by rintro rfl; simp at h
    exact ⟨1 / r, fun y => Ideal.div_coe hr y⟩

variable {x : Fin n → ℝ} {i : Fin n} {t : ℝ}

/-- The reference's scaled difference of reals. -/
theorem rT_coe (ht : 0 < t) (k : Fin n) :
    rT (fun k => (x k : EReal)) (x i) t k = ((((x k - x i) / t : ℝ)) : EReal) := by
  rw [rT, ← EReal.coe_sub, Ideal.div_coe ht.ne', ← EReal.coe_mul]; congr 1; ring

/-- Both new running maxima are the greatest scaled difference against the old running maximum. -/
theorem exists_max (ht : 0 < t) (β : EReal) : ∃ M : ℝ,
    kB (fun k => (x k : EReal)) (x i) t β = max (M : EReal) β
      ∧ rB (fun k => (x k : EReal)) (x i) t β = max (M : EReal) β := by
  haveI : Nonempty (Fin n) := ⟨i⟩
  obtain ⟨j, hj⟩ := Finite.exists_max x
  refine ⟨(x j - x i) / t, ?_, ?_⟩
  · rw [kB, fold_max_eq (f := fun k => (x k : EReal)) (j := j) fun k => EReal.coe_le_coe_iff.mpr (hj k),
      Ideal.div_coe ht.ne', one_mul, ← EReal.coe_mul, ← EReal.coe_mul, ← EReal.coe_sub]
    congr 2; ring
  · rw [rB, fold_max_eq (j := j) fun k => ?_, rT_coe ht]
    refine max_le_max ?_ le_rfl
    rw [rT_coe ht, rT_coe ht]
    exact EReal.coe_le_coe_iff.mpr (by have := hj k; gcongr)

/-- The kernel's new running maximum is the reference's. -/
theorem kB_eq (ht : 0 < t) (β : EReal) :
    kB (fun k => (x k : EReal)) (x i) t β = rB (fun k => (x k : EReal)) (x i) t β := by
  obtain ⟨M, h1, h2⟩ := exists_max (x := x) (i := i) ht β
  rw [h1, h2]

/-- The new running maximum is a real, or everything is at the top. -/
theorem kB_cases (ht : 0 < t) (β : EReal) :
    kB (fun k => (x k : EReal)) (x i) t β = ⊤ ∨ ∃ b : ℝ, kB (fun k => (x k : EReal)) (x i) t β = b := by
  obtain ⟨M, h1, -⟩ := exists_max (x := x) (i := i) ht β
  rw [h1]
  induction β with
  | bot => exact .inr ⟨M, by simp⟩
  | top => exact .inl (by simp)
  | coe r => exact .inr ⟨max M r, coe_max' M r⟩

/-- The kernel's exponent is the scaled difference less the running maximum, when that is a real. -/
theorem kU_coe (ht : 0 < t) {β : EReal} {b : ℝ} (hb : kB (fun k => (x k : EReal)) (x i) t β = b) (k : Fin n) :
    kU (fun k => (x k : EReal)) (x i) t β k = (((x k - x i) / t - b : ℝ) : EReal) := by
  rw [kU, hb, Ideal.div_coe ht.ne', one_mul, ← EReal.coe_mul, ← EReal.coe_mul, ← EReal.coe_add, ← EReal.coe_sub]
  congr 1; ring

/-- The kernel's exponent when the running maximum is at the top. -/
theorem kU_top (ht : 0 < t) {β : EReal} (hb : kB (fun k => (x k : EReal)) (x i) t β = ⊤) (k : Fin n) :
    kU (fun k => (x k : EReal)) (x i) t β k = ⊥ := by
  rw [kU, hb, Ideal.div_coe ht.ne', one_mul, ← EReal.coe_mul, ← EReal.coe_mul, EReal.coe_add_top, EReal.sub_top]

/-- The reference's masked exponential, when the running maximum is a real. -/
theorem rE_coe (ht : 0 < t) {β : EReal} {b : ℝ} (hb : rB (fun k => (x k : EReal)) (x i) t β = b) (k : Fin n) :
    rE (fun k => (x k : EReal)) i (x i) t β k
      = ((Real.exp ((x k - x i) / t - b) * (1 - if k = i then 1 else 0) : ℝ) : EReal) := by
  rw [rE, hb, rT_coe ht, ← EReal.coe_sub, Ideal.exp_coe, EReal.coe_mul]
  congr 1
  split_ifs
  · rw [EReal.coe_sub]; rfl
  · rw [EReal.coe_sub]; rfl

/-- The reference's masked exponential, when the running maximum is at the top. -/
theorem rE_top (ht : 0 < t) {β : EReal} (hb : rB (fun k => (x k : EReal)) (x i) t β = ⊤) (k : Fin n) :
    rE (fun k => (x k : EReal)) i (x i) t β k = 0 := by
  rw [rE, hb, EReal.sub_top, Ideal.exp_bot, zero_mul]

/-- The sum off the diagonal: what the mask leaves is the whole sum less the diagonal's term. -/
theorem kG_eq (ht : 0 < t) (β : EReal) :
    kG (fun k => (x k : EReal)) (x i) t β = rG (fun k => (x k : EReal)) i (x i) t β := by
  have hr := kB_eq (x := x) (i := i) ht β
  rcases kB_cases (x := x) (i := i) ht β with hb | ⟨b, hb⟩
  · rw [kG, kSum, rG, hb, Finset.sum_eq_zero fun k _ => by rw [kU_top ht hb, Ideal.exp_bot],
      Finset.sum_eq_zero fun k _ => rE_top ht (hr.symm.trans hb) k, EReal.sub_top, Ideal.exp_bot, sub_zero]
  · rw [kG, kSum, rG, hb, Finset.sum_congr rfl fun k _ => by rw [kU_coe ht hb, Ideal.exp_coe],
      Finset.sum_congr rfl fun k _ => rE_coe ht (hr.symm.trans hb) k, sum_coe, sum_coe, zero_sub, ← EReal.coe_neg,
      Ideal.exp_coe, ← EReal.coe_sub]
    congr 1
    simp only [mul_sub, mul_one, Finset.sum_sub_distrib, mul_ite, mul_zero, Finset.sum_ite_eq', Finset.mem_univ,
      if_true, sub_self, zero_div, zero_sub]

/-- The new normaliser is the same. -/
theorem kS_eq (ht : 0 < t) (β p q s : EReal) :
    kS (fun k => (x k : EReal)) (x i) t β p q s = rS (fun k => (x k : EReal)) i (x i) t β p q s := by
  rw [kS, rS, kB_eq ht, kG_eq ht]

/-- The kernel's weighted sum is a real, the reference's weighted sum of scaled differences is that real, and its
    weighted sum of differences is that real times the temperature. -/
theorem exists_weighted (ht : 0 < t) (β p q s : EReal) {ε : EReal} (hε : 0 < ε) : ∃ w : ℝ,
    kW (fun k => (x k : EReal)) (x i) t β p q ε s = w
      ∧ (∑ k, rW (fun k => (x k : EReal)) i (x i) t β p q ε s k * rT (fun k => (x k : EReal)) (x i) t k) = (w : EReal)
      ∧ rL (fun k => (x k : EReal)) i (x i) t β p q ε s = ((t * w : ℝ) : EReal) := by
  have hr := kB_eq (x := x) (i := i) ht β
  obtain ⟨c, hc⟩ := exists_div_eq (lt_of_lt_of_le hε (le_max_right (kS (fun k => (x k : EReal)) (x i) t β p q s) ε))
  have hc' : ∀ y, Ideal.div y (max ε (rS (fun k => (x k : EReal)) i (x i) t β p q s)) = y * (c : EReal) := by
    rw [max_comm, ← kS_eq ht]; exact hc
  unfold kW rL rW
  simp only [hc, hc']
  rcases kB_cases (x := x) (i := i) ht β with hb | ⟨b, hb⟩
  · have hz : kSum (fun k => (x k : EReal)) (x i) t β = 0 :=
      Finset.sum_eq_zero fun k _ => by rw [kU_top ht hb, Ideal.exp_bot]
    have hr0 : ∀ k, rE (fun k => (x k : EReal)) i (x i) t β k = 0 := rE_top ht (hr.symm.trans hb)
    refine ⟨0, ?_, ?_, ?_⟩
    · rw [hz, Finset.sum_eq_zero fun k _ => by rw [kU_top ht hb, Ideal.exp_bot, zero_mul]]; simp
    · simp [hr0]
    · simp [hr0]
  · have hU := kU_coe (x := x) (i := i) ht hb
    have hE := rE_coe (x := x) (i := i) ht (hr.symm.trans hb)
    have hm : ∀ k, (1 - if k = i then (1 : ℝ) else 0) * (x k - x i) = x k - x i := by
      intro k
      split_ifs with h
      · rw [h]; ring
      · ring
    refine ⟨(∑ k, Real.exp ((x k - x i) / t - b) * ((x k - x i) / t)) * c, ?_, ?_, ?_⟩
    · rw [kSum, hb]
      simp only [hU, Ideal.exp_coe, ← EReal.coe_mul, sum_coe, ← EReal.coe_add]
      congr 2
      rw [Finset.mul_sum, ← Finset.sum_add_distrib]
      exact Finset.sum_congr rfl fun k _ => by ring
    · simp only [hE, rT_coe ht, ← EReal.coe_mul, sum_coe]
      congr 1
      rw [Finset.sum_mul]
      refine Finset.sum_congr rfl fun k _ => ?_
      have h := hm k
      calc _ = Real.exp ((x k - x i) / t - b) * c * ((1 - if k = i then (1 : ℝ) else 0) * (x k - x i)) / t := by ring
        _ = _ := by rw [h]; ring
    · simp only [hE, ← EReal.coe_sub, ← EReal.coe_mul, sum_coe]
      congr 1
      rw [Finset.sum_mul, Finset.mul_sum]
      refine Finset.sum_congr rfl fun k _ => ?_
      have h := hm k
      calc _ = Real.exp ((x k - x i) / t - b) * c * ((1 - if k = i then (1 : ℝ) else 0) * (x k - x i)) := by ring
        _ = _ := by rw [h]; field_simp

/-- The loss at this column is the same, and is a real. -/
theorem exists_loss (ht : 0 < t) (β p q s : EReal) {ε : EReal} (hε : 0 < ε) : ∃ l : ℝ,
    kL (fun k => (x k : EReal)) (x i) t β p q ε s = l
      ∧ rL (fun k => (x k : EReal)) i (x i) t β p q ε s = (l : EReal) := by
  obtain ⟨w, h1, -, h3⟩ := exists_weighted (x := x) (i := i) ht β p q s hε
  exact ⟨t * w, by rw [kL, h1, EReal.coe_mul], h3⟩

/-- The temperature gradient at this column is the same. -/
theorem kD_eq (ht : 0 < t) (β p q ρ N s : EReal) {ε : EReal} (hε : 0 < ε) :
    kD (fun k => (x k : EReal)) (x i) t β p q ε ρ N s = rD (fun k => (x k : EReal)) i (x i) t β p q ε ρ N s := by
  obtain ⟨w, h1, h2, -⟩ := exists_weighted (x := x) (i := i) ht β p q s hε
  rw [kD, rD, h1, h2, kS_eq ht, kB_eq ht, max_comm]

/-! ## The mean over the columns -/

/-- The mean of half of one family of reals and half of another is half of the one mean and half of the other. -/
theorem mean_eq {f g : Fin n → EReal} (hf : ∀ k, ∃ r : ℝ, f k = r) (hg : ∀ k, ∃ r : ℝ, g k = r) {h N : EReal}
    (hh : ∃ r : ℝ, h = r) (hN : ∃ r : ℝ, r ≠ 0 ∧ N = r) :
    Ideal.div (h * ∑ k, f k + h * ∑ k, g k) N = h * Ideal.div (∑ k, f k) N + h * Ideal.div (∑ k, g k) N := by
  choose f' hf using hf
  choose g' hg using hg
  obtain ⟨h', rfl⟩ := hh
  obtain ⟨N', hN', rfl⟩ := hN
  simp only [hf, hg, sum_coe, Ideal.div_coe hN', ← EReal.coe_mul, ← EReal.coe_add]
  congr 1; ring

/-! ## The normalised row -/

/-- The kernel's normalised entry: times the reciprocal square root of the sum of squares floored at `c²`. -/
def kN (z : Fin n → EReal) (c2 : EReal) (k : Fin n) : EReal := z k * Ideal.rsqrt (max (∑ l, z l * z l) c2)

/-- The reference's normalised entry: over the norm floored at `c`. -/
def rN (z : Fin n → EReal) (c : EReal) (k : Fin n) : EReal := Ideal.div (z k) (max c (Ideal.sqrt (∑ l, z l * z l)))

/-- A square is not below zero. -/
theorem mul_self_nonneg' (y : EReal) : 0 ≤ y * y := by
  induction y with
  | bot => simp
  | top => simp
  | coe r => rw [← EReal.coe_mul]; exact_mod_cast mul_self_nonneg r

/-- The two normalised entries agree and are real, whatever the row holds: a row whose sum of squares is infinite
    normalises to zero, and any other row is real. -/
theorem exists_normalised (z : Fin n → EReal) {c : ℝ} (hc : 0 < c) (k : Fin n) : ∃ r : ℝ,
    kN z ((c ^ 2 : ℝ) : EReal) k = r ∧ rN z c k = (r : EReal) := by
  have hle : ∀ l, z l * z l ≤ ∑ l, z l * z l := fun l =>
    Finset.single_le_sum (f := fun l => z l * z l) (fun l _ => mul_self_nonneg' _) (Finset.mem_univ l)
  have h0 : 0 ≤ ∑ l, z l * z l := Finset.sum_nonneg fun l _ => mul_self_nonneg' _
  rw [kN, rN]
  generalize hs : (∑ l, z l * z l) = s at hle h0
  induction s with
  | bot => simp at h0
  | top =>
    refine ⟨0, ?_, ?_⟩
    · rw [max_eq_left le_top, Ideal.rsqrt_top, mul_zero]; rfl
    · rw [Ideal.sqrt_top, max_eq_right le_top]; simp [Ideal.div]
  | coe s =>
    have hs0 : 0 ≤ s := by exact_mod_cast h0
    have hz : ∃ r : ℝ, z k = r := by
      have := hle k
      induction hzk : z k with
      | bot => rw [hzk] at this; simp at this
      | top => rw [hzk] at this; simp at this
      | coe r => exact ⟨r, rfl⟩
    obtain ⟨r, hr⟩ := hz
    have hc2 : 0 < c ^ 2 := by positivity
    have hm : 0 < max s (c ^ 2) := lt_max_of_lt_right hc2
    have hsq : Real.sqrt (max s (c ^ 2)) = max c (Real.sqrt s) := by
      rcases le_total s (c ^ 2) with h | h
      · rw [max_eq_right h, Real.sqrt_sq hc.le, max_eq_left]
        exact Real.sqrt_le_iff.mpr ⟨hc.le, h⟩
      · rw [max_eq_left h, max_eq_right]
        exact Real.le_sqrt_of_sq_le h
    have hmc : 0 < max c (Real.sqrt s) := lt_max_of_lt_left hc
    refine ⟨r * (max c (Real.sqrt s))⁻¹, ?_, ?_⟩
    · rw [hr, coe_max', Ideal.rsqrt_coe, if_neg (not_lt.mpr hm.le), if_neg hm.ne', hsq, EReal.coe_mul]
    · rw [hr, Ideal.sqrt_coe, if_neg (not_lt.mpr hs0), coe_max', Ideal.div_coe hmc.ne', ← EReal.coe_mul, one_div]

end Cert.Column

end
-- ==== Proof.KernelRows.lean ====
/-
  The kernel's values over the feature rows and the state, read at an index.
-/
module

public import proofs.«01_k».proof.Proof.Column
public import proofs.«01_k».proof.Proof.Consts
public import proofs.«01_k».proof.Proof.Gen.KernelIdeal.Skeleton
public import Idealize.ShloMosaic.Lib.Pointwise
public import Idealize.ShloMosaic.PureOps.IdealRules

@[expose] public section

noncomputable section

namespace Cert.KernelRead

open Idealize.ShloMosaic Idealize.ShloMosaic.Pointwise Cert.KernelIdeal Cert.KernelIdeal.Gen Cert.Column

/-- The named floor of the kernel's sum of squares is the square of the floor of a norm. -/
theorem named_floor : Named.named (F := Ideal) (φ := .f32) κ "sq_floor" 0x179ABE15#32 = ((Consts.floor ^ 2 : ℝ) : EReal) := by
  rw [IdealRules.named_const.ideal_named_scalar _ _ _ _ rfl]
  congr 1
  unfold Consts.floor
  norm_num

variable (v0 v1 : FVec Ideal S1024x256 .f32) (i j : Fin 1024) (v : FVec Ideal S1024 .f32)

/-- The kernel's normalised image features. -/
theorem pay2_ap (d : Fin 256) : k0_pay2 (F := Ideal) v0 (ix2 i d)
    = kN (fun l => v0 (ix2 i l)) ((Consts.floor ^ 2 : ℝ) : EReal) d := by
  pointwise [k0_pay2, named_floor]
  rfl

/-- The kernel's normalised text features. -/
theorem pay3_ap (d : Fin 256) : k0_pay3 (F := Ideal) v1 (ix2 i d)
    = kN (fun l => v1 (ix2 i l)) ((Consts.floor ^ 2 : ℝ) : EReal) d := by
  pointwise [k0_pay3, named_floor]
  rfl

/-- The kernel's similarities, images by texts. -/
theorem pay4_ap : k0_pay4 (F := Ideal) v0 v1 (ix2 i j)
    = ∑ d : Fin 256, k0_pay2 (F := Ideal) v0 (ix2 i d) * k0_pay3 (F := Ideal) v1 (ix2 j d) := by
  pointwise [k0_pay4]

/-- The kernel's similarities, texts by images. -/
theorem pay5_ap : k0_pay5 (F := Ideal) v0 v1 (ix2 i j)
    = ∑ d : Fin 256, k0_pay3 (F := Ideal) v1 (ix2 i d) * k0_pay2 (F := Ideal) v0 (ix2 j d) := by
  pointwise [k0_pay5]

/-- The kernel's diagonal of the similarities, a row. -/
theorem pay6_ap : k0_pay6 (F := Ideal) v0 v1 (ix2 (0 : Fin 1) j)
    = ∑ d : Fin 256, k0_pay2 (F := Ideal) v0 (ix2 j d) * k0_pay3 (F := Ideal) v1 (ix2 j d) := by
  pointwise [k0_pay6]

/-- The image temperatures, laid as a row. -/
theorem pay7_ap : k0_pay7 (F := Ideal) v (ix2 (0 : Fin 1) j) = v (ix1 j) := by
  pointwise [k0_pay7]

/-- The text temperatures, laid as a row. -/
theorem pay8_ap : k0_pay8 (F := Ideal) v (ix2 (0 : Fin 1) j) = v (ix1 j) := by
  pointwise [k0_pay8]

/-- The old image maxima, laid as a row. -/
theorem pay9_ap : k0_pay9 (F := Ideal) v (ix2 (0 : Fin 1) j) = v (ix1 j) := by
  pointwise [k0_pay9]

/-- The old text maxima, laid as a row. -/
theorem pay10_ap : k0_pay10 (F := Ideal) v (ix2 (0 : Fin 1) j) = v (ix1 j) := by
  pointwise [k0_pay10]

/-- The old image normalisers, laid as a row. -/
theorem pay11_ap : k0_pay11 (F := Ideal) v (ix2 (0 : Fin 1) j) = v (ix1 j) := by
  pointwise [k0_pay11]

/-- The old text normalisers, laid as a row. -/
theorem pay12_ap : k0_pay12 (F := Ideal) v (ix2 (0 : Fin 1) j) = v (ix1 j) := by
  pointwise [k0_pay12]

/-- The old image averages, laid as a row. -/
theorem pay13_ap : k0_pay13 (F := Ideal) v (ix2 (0 : Fin 1) j) = v (ix1 j) := by
  pointwise [k0_pay13]

/-- The old text averages, laid as a row. -/
theorem pay14_ap : k0_pay14 (F := Ideal) v (ix2 (0 : Fin 1) j) = v (ix1 j) := by
  pointwise [k0_pay14]

end Cert.KernelRead

end
-- ==== Proof.KernelImage.lean ====
/-
  The kernel's values of the image side, read at an index: the kernel's form of one column.
-/
module

public import proofs.«01_k».proof.Proof.Column
public import proofs.«01_k».proof.Proof.Consts
public import proofs.«01_k».proof.Proof.Gen.KernelIdeal.Skeleton
public import Idealize.ShloMosaic.Lib.Pointwise

@[expose] public section

noncomputable section

namespace Cert.KernelRead

open Idealize.ShloMosaic Idealize.ShloMosaic.Pointwise Cert.KernelIdeal Cert.KernelIdeal.Gen Cert.Column

variable (v19 : FVec Ideal S1024x1024 .f32) (v23 v25 v29 v33 : FVec Ideal S1x1024 .f32) (j : Fin 1024)

/-- The new running maximum of an image. -/
theorem pay17_ap : k0_pay17 (F := Ideal) v19 v23 v25 v29 (ix2 (0 : Fin 1) j)
    = kB (fun k => v19 (ix2 k j)) (v23 (ix2 0 j)) (v25 (ix2 0 j)) (v29 (ix2 0 j)) := by
  pointwise [k0_pay17, k0_pay16, k0_pay15]
  rw [Consts.ofBits_neg_inf]
  rfl

/-- The exponent of a text against an image. -/
theorem pay18_ap (k : Fin 1024) : k0_pay18 (F := Ideal) v19 v23 v25 v29 (ix2 k j)
    = kU (fun k => v19 (ix2 k j)) (v23 (ix2 0 j)) (v25 (ix2 0 j)) (v29 (ix2 0 j)) k := by
  pointwise [k0_pay18, k0_pay16, k0_pay15, pay17_ap]
  rfl

/-- The sum of the exponentials of an image. -/
theorem pay20_ap : k0_pay20 (F := Ideal) v19 v23 v25 v29 (ix2 (0 : Fin 1) j)
    = kSum (fun k => v19 (ix2 k j)) (v23 (ix2 0 j)) (v25 (ix2 0 j)) (v29 (ix2 0 j)) := by
  pointwise [k0_pay20, k0_pay19, pay18_ap]
  rfl

/-- The sum of the exponentials of an image off the diagonal. -/
theorem pay21_ap : k0_pay21 (F := Ideal) v19 v23 v25 v29 (ix2 (0 : Fin 1) j)
    = kG (fun k => v19 (ix2 k j)) (v23 (ix2 0 j)) (v25 (ix2 0 j)) (v29 (ix2 0 j)) := by
  pointwise [k0_pay21, pay20_ap, pay17_ap]
  rfl

/-- The new normaliser of an image. -/
theorem pay22_ap : k0_pay22 (F := Ideal) v19 v23 v25 v29 v33 (ix2 (0 : Fin 1) j)
    = kS (fun k => v19 (ix2 k j)) (v23 (ix2 0 j)) (v25 (ix2 0 j)) (v29 (ix2 0 j))
        (Ideal.ofBits .f32 0x3DCCCCCD#32) (Ideal.ofBits .f32 0x3F666666#32) (v33 (ix2 0 j)) := by
  pointwise [k0_pay22, pay21_ap, pay17_ap]
  rfl

/-- The weighted sum of the scaled differences of an image. -/
theorem pay24_ap : k0_pay24 (F := Ideal) v19 v23 v25 v29 v33 (ix2 (0 : Fin 1) j)
    = kW (fun k => v19 (ix2 k j)) (v23 (ix2 0 j)) (v25 (ix2 0 j)) (v29 (ix2 0 j))
        (Ideal.ofBits .f32 0x3DCCCCCD#32) (Ideal.ofBits .f32 0x3F666666#32) (Ideal.ofBits .f32 0x283424DC#32) (v33 (ix2 0 j)) := by
  pointwise [k0_pay24, k0_pay23, k0_pay19, pay22_ap, pay20_ap, pay18_ap, pay17_ap]
  rfl

/-- The loss of an image. -/
theorem pay25_ap : k0_pay25 (F := Ideal) v19 v23 v25 v29 v33 (ix2 (0 : Fin 1) j)
    = kL (fun k => v19 (ix2 k j)) (v23 (ix2 0 j)) (v25 (ix2 0 j)) (v29 (ix2 0 j))
        (Ideal.ofBits .f32 0x3DCCCCCD#32) (Ideal.ofBits .f32 0x3F666666#32) (Ideal.ofBits .f32 0x283424DC#32) (v33 (ix2 0 j)) := by
  pointwise [k0_pay25, pay24_ap]
  rfl

/-- The temperature gradient of an image. -/
theorem pay26_ap : k0_pay26 (F := Ideal) v19 v23 v25 v29 v33 (ix2 (0 : Fin 1) j)
    = kD (fun k => v19 (ix2 k j)) (v23 (ix2 0 j)) (v25 (ix2 0 j)) (v29 (ix2 0 j))
        (Ideal.ofBits .f32 0x3DCCCCCD#32) (Ideal.ofBits .f32 0x3F666666#32) (Ideal.ofBits .f32 0x283424DC#32)
        (Ideal.ofBits .f32 0x40C00000#32) (Ideal.ofBits .f32 0x447FC000#32) (v33 (ix2 0 j)) := by
  pointwise [k0_pay26, k0_pay23, pay24_ap, pay22_ap, pay17_ap]
  rfl

end Cert.KernelRead

end
-- ==== Proof.KernelText.lean ====
/-
  The kernel's values of the text side, read at an index: the kernel's form of one column.
-/
module

public import proofs.«01_k».proof.Proof.Column
public import proofs.«01_k».proof.Proof.Consts
public import proofs.«01_k».proof.Proof.Gen.KernelIdeal.Skeleton
public import Idealize.ShloMosaic.Lib.Pointwise

@[expose] public section

noncomputable section

namespace Cert.KernelRead

open Idealize.ShloMosaic Idealize.ShloMosaic.Pointwise Cert.KernelIdeal Cert.KernelIdeal.Gen Cert.Column

variable (v18 : FVec Ideal S1024x1024 .f32) (v23 v27 v31 v35 : FVec Ideal S1x1024 .f32) (j : Fin 1024)

/-- The reciprocal of a text temperature. -/
theorem pay27_ap : k0_pay27 (F := Ideal) v27 (ix2 (0 : Fin 1) j) = Ideal.div 1 (v27 (ix2 0 j)) := by
  pointwise [k0_pay27]

/-- The diagonal scaled by a text temperature. -/
theorem pay28_ap : k0_pay28 (F := Ideal) v23 v27 (ix2 (0 : Fin 1) j) = v23 (ix2 0 j) * Ideal.div 1 (v27 (ix2 0 j)) := by
  pointwise [k0_pay28, pay27_ap]

/-- The new running maximum of a text. -/
theorem pay30_ap : k0_pay30 (F := Ideal) v31 (k0_pay27 v27) (k0_pay28 v23 v27) (k0_pay29 v18)
      (ix2 (0 : Fin 1) j)
    = kB (fun k => v18 (ix2 k j)) (v23 (ix2 0 j)) (v27 (ix2 0 j)) (v31 (ix2 0 j)) := by
  pointwise [k0_pay30, k0_pay29, k0_pay28, k0_pay27]
  rw [Consts.ofBits_neg_inf]
  rfl

/-- The exponent of an image against a text. -/
theorem pay31_ap (k : Fin 1024) : k0_pay31 (F := Ideal) v18 v31 (k0_pay27 v27) (k0_pay28 v23 v27) (k0_pay29 v18)
      (ix2 k j)
    = kU (fun k => v18 (ix2 k j)) (v23 (ix2 0 j)) (v27 (ix2 0 j)) (v31 (ix2 0 j)) k := by
  pointwise [k0_pay31, pay30_ap, pay28_ap, pay27_ap]
  rfl

/-- The sum of the exponentials of a text. -/
theorem pay33_ap : k0_pay33 (F := Ideal) v18 v31 (k0_pay27 v27) (k0_pay28 v23 v27) (k0_pay29 v18)
      (ix2 (0 : Fin 1) j)
    = kSum (fun k => v18 (ix2 k j)) (v23 (ix2 0 j)) (v27 (ix2 0 j)) (v31 (ix2 0 j)) := by
  pointwise [k0_pay33, k0_pay32, pay31_ap]
  rfl

/-- The sum of the exponentials of a text off the diagonal. -/
theorem pay34_ap : k0_pay34 (F := Ideal) v18 v31 (k0_pay27 v27) (k0_pay28 v23 v27) (k0_pay29 v18)
      (ix2 (0 : Fin 1) j)
    = kG (fun k => v18 (ix2 k j)) (v23 (ix2 0 j)) (v27 (ix2 0 j)) (v31 (ix2 0 j)) := by
  pointwise [k0_pay34, pay33_ap, pay30_ap]
  rfl

/-- The new normaliser of a text. -/
theorem pay35_ap : k0_pay35 (F := Ideal) v18 v31 v35 (k0_pay27 v27) (k0_pay28 v23 v27) (k0_pay29 v18)
      (ix2 (0 : Fin 1) j)
    = kS (fun k => v18 (ix2 k j)) (v23 (ix2 0 j)) (v27 (ix2 0 j)) (v31 (ix2 0 j))
        (Ideal.ofBits .f32 0x3DCCCCCD#32) (Ideal.ofBits .f32 0x3F666666#32) (v35 (ix2 0 j)) := by
  pointwise [k0_pay35, pay34_ap, pay30_ap]
  rfl

/-- The weighted sum of the scaled differences of a text. -/
theorem pay37_ap : k0_pay37 (F := Ideal) v18 v31 v35 (k0_pay27 v27) (k0_pay28 v23 v27) (k0_pay29 v18)
      (ix2 (0 : Fin 1) j)
    = kW (fun k => v18 (ix2 k j)) (v23 (ix2 0 j)) (v27 (ix2 0 j)) (v31 (ix2 0 j))
        (Ideal.ofBits .f32 0x3DCCCCCD#32) (Ideal.ofBits .f32 0x3F666666#32) (Ideal.ofBits .f32 0x283424DC#32) (v35 (ix2 0 j)) := by
  pointwise [k0_pay37, k0_pay36, k0_pay32, pay35_ap, pay33_ap, pay31_ap, pay30_ap]
  rfl

/-- The loss of a text. -/
theorem pay38_ap : k0_pay38 (F := Ideal) v18 v27 v31 v35 (k0_pay27 v27) (k0_pay28 v23 v27) (k0_pay29 v18)
      (ix2 (0 : Fin 1) j)
    = kL (fun k => v18 (ix2 k j)) (v23 (ix2 0 j)) (v27 (ix2 0 j)) (v31 (ix2 0 j))
        (Ideal.ofBits .f32 0x3DCCCCCD#32) (Ideal.ofBits .f32 0x3F666666#32) (Ideal.ofBits .f32 0x283424DC#32) (v35 (ix2 0 j)) := by
  pointwise [k0_pay38, pay37_ap]
  rfl

/-- The temperature gradient of a text. -/
theorem pay39_ap : k0_pay39 (F := Ideal) v18 v31 v35 (k0_pay27 v27) (k0_pay28 v23 v27) (k0_pay29 v18)
      (ix2 (0 : Fin 1) j)
    = kD (fun k => v18 (ix2 k j)) (v23 (ix2 0 j)) (v27 (ix2 0 j)) (v31 (ix2 0 j))
        (Ideal.ofBits .f32 0x3DCCCCCD#32) (Ideal.ofBits .f32 0x3F666666#32) (Ideal.ofBits .f32 0x283424DC#32)
        (Ideal.ofBits .f32 0x40C00000#32) (Ideal.ofBits .f32 0x447FC000#32) (v35 (ix2 0 j)) := by
  pointwise [k0_pay39, k0_pay36, pay37_ap, pay35_ap, pay30_ap]
  rfl

end Cert.KernelRead

end
-- ==== Proof.KernelScalars.lean ====
/-
  The kernel's averages of the gradients and its row of scalars, read at an index.
-/
module

public import proofs.«01_k».proof.Proof.Column
public import proofs.«01_k».proof.Proof.Consts
public import proofs.«01_k».proof.Proof.Gen.KernelIdeal.Skeleton
public import Idealize.ShloMosaic.Lib.Pointwise

@[expose] public section

noncomputable section

namespace Cert.KernelRead

open Idealize.ShloMosaic Idealize.ShloMosaic.Pointwise Cert.KernelIdeal Cert.KernelIdeal.Gen Cert.Column

variable (x y : FVec Ideal S1x1024 .f32) (j : Fin 1024)

/-- The new average gradient of an image: the old one decayed, and the gradient clipped. -/
theorem pay42_ap : k0_pay42 (F := Ideal) (k0_pay40 x) (k0_pay41 y) (ix2 (0 : Fin 1) j)
    = Ideal.ofBits .f32 0x3DCCCCCD#32 * x (ix2 0 j)
      + Ideal.ofBits .f32 0x3F666666#32
        * min (Ideal.ofBits .f32 0x40A00000#32) (max (Ideal.ofBits .f32 0xC0A00000#32) (y (ix2 0 j))) := by
  pointwise [k0_pay42, k0_pay40, k0_pay41]

/-- The new average gradient of a text: the old one decayed, and the gradient clipped. -/
theorem pay43_ap : k0_pay43 (F := Ideal) x y (ix2 (0 : Fin 1) j)
    = Ideal.ofBits .f32 0x3DCCCCCD#32 * x (ix2 0 j)
      + Ideal.ofBits .f32 0x3F666666#32
        * min (Ideal.ofBits .f32 0x40A00000#32) (max (Ideal.ofBits .f32 0xC0A00000#32) (y (ix2 0 j))) := by
  pointwise [k0_pay43]

/-- The mean of the halved losses of the images and the texts. -/
theorem pay44_eq : k0_pay44 (F := Ideal) x y
    = Ideal.div (Ideal.ofBits .f32 0x3F000000#32 * ∑ k : Fin 1024, x (ix2 (0 : Fin 1) k)
        + Ideal.ofBits .f32 0x3F000000#32 * ∑ k : Fin 1024, y (ix2 (0 : Fin 1) k)) (Ideal.ofBits .f32 0x44800000#32) := by
  pointwise [k0_pay44]
  simp only [Finset.univ_unique, Finset.sum_singleton]

/-- The mean of the image temperatures. -/
theorem pay45_eq : k0_pay45 (F := Ideal) x
    = Ideal.div (∑ k : Fin 1024, x (ix2 (0 : Fin 1) k)) (Ideal.ofBits .f32 0x44800000#32) := by
  pointwise [k0_pay45]
  simp only [Finset.univ_unique, Finset.sum_singleton]

/-- The mean of the text temperatures. -/
theorem pay46_eq : k0_pay46 (F := Ideal) x
    = Ideal.div (∑ k : Fin 1024, x (ix2 (0 : Fin 1) k)) (Ideal.ofBits .f32 0x44800000#32) := by
  pointwise [k0_pay46]
  simp only [Finset.univ_unique, Finset.sum_singleton]

/-- The mask of lane zero. -/
theorem lane_zero : ∀ l : Fin 128, IntOp.cmpi CmpIPredicate.eq (BitVec.ofNat 32 l.val) 0#32
    = if l.val < 1 then 1#1 else 0#1 := by decide

/-- The mask of lane one. -/
theorem lane_one : ∀ l : Fin 128, IntOp.cmpi CmpIPredicate.eq (BitVec.ofNat 32 l.val) 1#32
    = if l.val = 1 then 1#1 else 0#1 := by decide

/-- The row of scalars: the loss at lane zero, the mean image temperature at lane one, the mean text temperature after. -/
theorem pay1_ap (a b c : EReal) (l : Fin 128) : k0_pay1 (F := Ideal) a b c (ix2 (0 : Fin 1) l)
    = if l.val < 1 then a else if l.val < 2 then b else c := by
  pointwise [k0_pay1]
  rw [lane_zero, lane_one]
  rcases l with ⟨l, hl⟩
  by_cases h0 : l < 1
  · simp [h0, Scalar.select]
  by_cases h1 : l < 2
  · have : l = 1 := by omega
    subst this
    simp [Scalar.select]
  · have : ¬ l = 1 := by omega
    simp [h0, h1, this, Scalar.select]

end Cert.KernelRead

end
-- ==== Proof.KernelOut.lean ====
/-
  The kernel's nine result arrays after its run, as the named payloads of the blocks it reads, and those blocks as the
  leading parts of the argument arrays.
-/
module

public import proofs.«01_k».proof.Proof.Gen.KernelIdeal.Value
public import Idealize.ShloMosaic.Lib.Tactic
public import Idealize.ShloMosaic.Lib.Pointwise

@[expose] public section

noncomputable section

namespace Cert.KernelOut

open Cert.KernelIdeal Cert.KernelIdeal.Gen Cert.KernelIdeal.Value
open Idealize.ShloMosaic Idealize.ShloMosaic.TcCoe Idealize.ShloMosaic.Pointwise Idealize.SL.Sem
open Idealize.ShloMosaic.Pipeline (Dat)

variable {F : FTy → Type} [FloatOps F] [Named F]

/-- Both offsets of a whole two-dimensional access are zero. -/
theorem hz : (![0, 0] : Fin 2 → Nat) = fun _ => 0 := funext fun a => by fin_cases a <;> rfl

/-- The offset of a whole one-dimensional access is zero. -/
theorem hz1 : (![0] : Fin 1 → Nat) = fun _ => 0 := funext fun a => by fin_cases a; rfl

/-! ## The results over the blocks -/

/-- Over the blocks: the sums off the diagonal of the images. -/
abbrev gI (x0 x1 : Vec F S1024x256 .f32) (x2 x3 x4 x5 x6 x7 x8 x9 : Vec F S1024 .f32) :
    Vec F S1x1024 .f32 :=
  k0_pay21 (k0_pay5 x0 x1) (k0_pay6 x0 x1) (k0_pay7 x6) (k0_pay9 x4)

/-- Over the blocks: the sums off the diagonal of the texts. -/
abbrev gT (x0 x1 : Vec F S1024x256 .f32) (x2 x3 x4 x5 x6 x7 x8 x9 : Vec F S1024 .f32) :
    Vec F S1x1024 .f32 :=
  k0_pay34 (k0_pay4 x0 x1) (k0_pay10 x5) (k0_pay27 (k0_pay8 x7)) (k0_pay28 (k0_pay6 x0 x1) (k0_pay8 x7))
      (k0_pay29 (k0_pay4 x0 x1))

/-- Over the blocks: the temperature gradients of the images. -/
abbrev dI (x0 x1 : Vec F S1024x256 .f32) (x2 x3 x4 x5 x6 x7 x8 x9 : Vec F S1024 .f32) :
    Vec F S1x1024 .f32 :=
  k0_pay26 (k0_pay5 x0 x1) (k0_pay6 x0 x1) (k0_pay7 x6) (k0_pay9 x4) (k0_pay11 x2)

/-- Over the blocks: the temperature gradients of the texts. -/
abbrev dT (x0 x1 : Vec F S1024x256 .f32) (x2 x3 x4 x5 x6 x7 x8 x9 : Vec F S1024 .f32) :
    Vec F S1x1024 .f32 :=
  k0_pay39 (k0_pay4 x0 x1) (k0_pay10 x5) (k0_pay12 x3) (k0_pay27 (k0_pay8 x7)) (k0_pay28 (k0_pay6 x0 x1) (k0_pay8 x7))
      (k0_pay29 (k0_pay4 x0 x1))

/-- Over the blocks: the new normalisers of the images. -/
abbrev sI (x0 x1 : Vec F S1024x256 .f32) (x2 x3 x4 x5 x6 x7 x8 x9 : Vec F S1024 .f32) :
    Vec F S1x1024 .f32 :=
  k0_pay22 (k0_pay5 x0 x1) (k0_pay6 x0 x1) (k0_pay7 x6) (k0_pay9 x4) (k0_pay11 x2)

/-- Over the blocks: the new normalisers of the texts. -/
abbrev sT (x0 x1 : Vec F S1024x256 .f32) (x2 x3 x4 x5 x6 x7 x8 x9 : Vec F S1024 .f32) :
    Vec F S1x1024 .f32 :=
  k0_pay35 (k0_pay4 x0 x1) (k0_pay10 x5) (k0_pay12 x3) (k0_pay27 (k0_pay8 x7)) (k0_pay28 (k0_pay6 x0 x1) (k0_pay8 x7))
      (k0_pay29 (k0_pay4 x0 x1))

/-- Over the blocks: the losses of the images. -/
abbrev lI (x0 x1 : Vec F S1024x256 .f32) (x2 x3 x4 x5 x6 x7 x8 x9 : Vec F S1024 .f32) :
    Vec F S1x1024 .f32 :=
  k0_pay25 (k0_pay5 x0 x1) (k0_pay6 x0 x1) (k0_pay7 x6) (k0_pay9 x4) (k0_pay11 x2)

/-- Over the blocks: the losses of the texts. -/
abbrev lT (x0 x1 : Vec F S1024x256 .f32) (x2 x3 x4 x5 x6 x7 x8 x9 : Vec F S1024 .f32) :
    Vec F S1x1024 .f32 :=
  k0_pay38 (k0_pay4 x0 x1) (k0_pay8 x7) (k0_pay10 x5) (k0_pay12 x3) (k0_pay27 (k0_pay8 x7)) (k0_pay28 (k0_pay6 x0 x1) (k0_pay8 x7))
      (k0_pay29 (k0_pay4 x0 x1))

/-- Over the blocks: the new average gradients of the images. -/
abbrev uI (x0 x1 : Vec F S1024x256 .f32) (x2 x3 x4 x5 x6 x7 x8 x9 : Vec F S1024 .f32) :
    Vec F S1x1024 .f32 :=
  k0_pay42 (k0_pay40 (k0_pay13 x8)) (k0_pay41 (dI x0 x1 x2 x3 x4 x5 x6 x7 x8 x9))

/-- Over the blocks: the new average gradients of the texts. -/
abbrev uT (x0 x1 : Vec F S1024x256 .f32) (x2 x3 x4 x5 x6 x7 x8 x9 : Vec F S1024 .f32) :
    Vec F S1x1024 .f32 :=
  k0_pay43 (k0_pay14 x9) (dT x0 x1 x2 x3 x4 x5 x6 x7 x8 x9)

/-- Over the blocks: the row of scalars. -/
abbrev sc (x0 x1 : Vec F S1024x256 .f32) (x2 x3 x4 x5 x6 x7 x8 x9 : Vec F S1024 .f32) :
    Vec F S1x128 .f32 :=
  k0_pay1 (k0_pay44 (lI x0 x1 x2 x3 x4 x5 x6 x7 x8 x9) (lT x0 x1 x2 x3 x4 x5 x6 x7 x8 x9)) (k0_pay45 (k0_pay7 x6)) (k0_pay46 (k0_pay8 x7))

variable (c : Dev nD) (i : grid0.Coords)
    (a1 : Memref sig .tc .vmem S1024x256 .f32) (h1 : a1.IsWhole)
    (a2 : Memref sig .tc .vmem S1024x256 .f32) (h2 : a2.IsWhole)
    (a3 : Memref sig .tc .vmem S1024 .f32) (h3 : a3.IsWhole)
    (a4 : Memref sig .tc .vmem S1024 .f32) (h4 : a4.IsWhole)
    (a5 : Memref sig .tc .vmem S1024 .f32) (h5 : a5.IsWhole)
    (a6 : Memref sig .tc .vmem S1024 .f32) (h6 : a6.IsWhole)
    (a7 : Memref sig .tc .vmem S1024 .f32) (h7 : a7.IsWhole)
    (a8 : Memref sig .tc .vmem S1024 .f32) (h8 : a8.IsWhole)
    (a9 : Memref sig .tc .vmem S1024 .f32) (h9 : a9.IsWhole)
    (a10 : Memref sig .tc .vmem S1024 .f32) (h10 : a10.IsWhole)
    (a11 : Memref sig .tc .vmem S1x1024 .f32) (h11 : a11.IsWhole)
    (a12 : Memref sig .tc .vmem S1x1024 .f32) (h12 : a12.IsWhole)
    (a13 : Memref sig .tc .vmem S1x1024 .f32) (h13 : a13.IsWhole)
    (a14 : Memref sig .tc .vmem S1x1024 .f32) (h14 : a14.IsWhole)
    (a15 : Memref sig .tc .vmem S1x1024 .f32) (h15 : a15.IsWhole)
    (a16 : Memref sig .tc .vmem S1x1024 .f32) (h16 : a16.IsWhole)
    (a17 : Memref sig .tc .vmem S1x1024 .f32) (h17 : a17.IsWhole)
    (a18 : Memref sig .tc .vmem S1x1024 .f32) (h18 : a18.IsWhole)
    (a19 : Memref sig .tc .vmem S1x128 .f32) (h19 : a19.IsWhole)
    (x0 x1 : Vec F S1024x256 .f32) (x2 x3 x4 x5 x6 x7 x8 x9 : Vec F S1024 .f32)

/-- What the body leaves in the staging buffer of output 0. -/
theorem out10 : out0_A_10 c i a1 h1 a2 h2 a3 h3 a4 h4 a5 h5 a6 h6 a7 h7 a8 h8 a9 h9 a10 h10 a11 h11 a12 h12 a13 h13 a14 h14 a15 h15 a16 h16 a17 h17 a18 h18 a19 h19
      x0 x1 x2 x3 x4 x5 x6 x7 x8 x9
    = gI x0 x1 x2 x3 x4 x5 x6 x7 x8 x9 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S1024x256) hz, View.ld_unit_zero (S := S1024) hz1, shapeCast_self]

/-- What the body leaves in the staging buffer of output 1. -/
theorem out11 : out0_A_11 c i a1 h1 a2 h2 a3 h3 a4 h4 a5 h5 a6 h6 a7 h7 a8 h8 a9 h9 a10 h10 a11 h11 a12 h12 a13 h13 a14 h14 a15 h15 a16 h16 a17 h17 a18 h18 a19 h19
      x0 x1 x2 x3 x4 x5 x6 x7 x8 x9
    = gT x0 x1 x2 x3 x4 x5 x6 x7 x8 x9 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S1024x256) hz, View.ld_unit_zero (S := S1024) hz1, shapeCast_self]

/-- What the body leaves in the staging buffer of output 2. -/
theorem out12 : out0_A_12 c i a1 h1 a2 h2 a3 h3 a4 h4 a5 h5 a6 h6 a7 h7 a8 h8 a9 h9 a10 h10 a11 h11 a12 h12 a13 h13 a14 h14 a15 h15 a16 h16 a17 h17 a18 h18 a19 h19
      x0 x1 x2 x3 x4 x5 x6 x7 x8 x9
    = dI x0 x1 x2 x3 x4 x5 x6 x7 x8 x9 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S1024x256) hz, View.ld_unit_zero (S := S1024) hz1, shapeCast_self]

/-- What the body leaves in the staging buffer of output 3. -/
theorem out13 : out0_A_13 c i a1 h1 a2 h2 a3 h3 a4 h4 a5 h5 a6 h6 a7 h7 a8 h8 a9 h9 a10 h10 a11 h11 a12 h12 a13 h13 a14 h14 a15 h15 a16 h16 a17 h17 a18 h18 a19 h19
      x0 x1 x2 x3 x4 x5 x6 x7 x8 x9
    = dT x0 x1 x2 x3 x4 x5 x6 x7 x8 x9 := by
  unfold out0_A_13
  rw [View.read_writes_eq_canon _ _ _ (cover0_A_13 c i a1 h1 a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S1024x256) hz, View.ld_unit_zero (S := S1024) hz1, shapeCast_self]

/-- What the body leaves in the staging buffer of output 4. -/
theorem out14 : out0_A_14 c i a1 h1 a2 h2 a3 h3 a4 h4 a5 h5 a6 h6 a7 h7 a8 h8 a9 h9 a10 h10 a11 h11 a12 h12 a13 h13 a14 h14 a15 h15 a16 h16 a17 h17 a18 h18 a19 h19
      x0 x1 x2 x3 x4 x5 x6 x7 x8 x9
    = sI x0 x1 x2 x3 x4 x5 x6 x7 x8 x9 := by
  unfold out0_A_14
  rw [View.read_writes_eq_canon _ _ _ (cover0_A_14 c i a1 h1 a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S1024x256) hz, View.ld_unit_zero (S := S1024) hz1, shapeCast_self]

/-- What the body leaves in the staging buffer of output 5. -/
theorem out15 : out0_A_15 c i a1 h1 a2 h2 a3 h3 a4 h4 a5 h5 a6 h6 a7 h7 a8 h8 a9 h9 a10 h10 a11 h11 a12 h12 a13 h13 a14 h14 a15 h15 a16 h16 a17 h17 a18 h18 a19 h19
      x0 x1 x2 x3 x4 x5 x6 x7 x8 x9
    = sT x0 x1 x2 x3 x4 x5 x6 x7 x8 x9 := by
  unfold out0_A_15
  rw [View.read_writes_eq_canon _ _ _ (cover0_A_15 c i a1 h1 a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S1024x256) hz, View.ld_unit_zero (S := S1024) hz1, shapeCast_self]

/-- What the body leaves in the staging buffer of output 6. -/
theorem out16 : out0_A_16 c i a1 h1 a2 h2 a3 h3 a4 h4 a5 h5 a6 h6 a7 h7 a8 h8 a9 h9 a10 h10 a11 h11 a12 h12 a13 h13 a14 h14 a15 h15 a16 h16 a17 h17 a18 h18 a19 h19
      x0 x1 x2 x3 x4 x5 x6 x7 x8 x9
    = uI x0 x1 x2 x3 x4 x5 x6 x7 x8 x9 := by
  unfold out0_A_16
  rw [View.read_writes_eq_canon _ _ _ (cover0_A_16 c i a1 h1 a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S1024x256) hz, View.ld_unit_zero (S := S1024) hz1, shapeCast_self]

/-- What the body leaves in the staging buffer of output 7. -/
theorem out17 : out0_A_17 c i a1 h1 a2 h2 a3 h3 a4 h4 a5 h5 a6 h6 a7 h7 a8 h8 a9 h9 a10 h10 a11 h11 a12 h12 a13 h13 a14 h14 a15 h15 a16 h16 a17 h17 a18 h18 a19 h19
      x0 x1 x2 x3 x4 x5 x6 x7 x8 x9
    = uT x0 x1 x2 x3 x4 x5 x6 x7 x8 x9 := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S1024x256) hz, View.ld_unit_zero (S := S1024) hz1, shapeCast_self]

/-- What the body leaves in the staging buffer of output 8. -/
theorem out18 : out0_A_18 c i a1 h1 a2 h2 a3 h3 a4 h4 a5 h5 a6 h6 a7 h7 a8 h8 a9 h9 a10 h10 a11 h11 a12 h12 a13 h13 a14 h14 a15 h15 a16 h16 a17 h17 a18 h18 a19 h19
      x0 x1 x2 x3 x4 x5 x6 x7 x8 x9
    = sc x0 x1 x2 x3 x4 x5 x6 x7 x8 x9 := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 x0 x1 x2 x3 x4 x5 x6 x7 x8 x9)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread,
    View.ld_unit_zero (S := S1024x256) hz, View.ld_unit_zero (S := S1024) hz1, shapeCast_self]

/-! ## The blocks over the arguments -/

/-- The first 1024 entries of a state array: the block the kernel reads of it. -/
def lead (x : Vec F S1000000 .f32) : Vec F S1024 .f32 := fun j =>
  x (ix1 ⟨(j 0).val, lt_of_lt_of_le (show (j 0).val < 1024 from (j 0).isLt) (by decide)⟩)

/-- The block, read at a row. -/
theorem lead_ap (x : Vec F S1000000 .f32) (j : Fin 1024) : lead x (ix1 j) = x (ix1 ⟨j.val, by omega⟩) := rfl

variable (m : (ℓ : Loc nD τ sig) → Buf (Elt F) ℓ)

/-- The block of the image features is the array. -/
theorem X0_eq (t : Fin cfg0.N) : iblk m c 0 t = m ((c : Thread nD τ).loc main_arg0) := by
  have hi : ∀ t : Fin cfg0.N, win0_0.index t 0 = 0 ∧ win0_0.index t 1 = 0 :=
    (by decide +kernel : ∀ t : Fin grid0.N, win0_0.index t 0 = 0 ∧ win0_0.index t 1 = 0)
  funext j
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * (j 0).val = (j 0).val; rw [(hi t).1]; omega
  | ⟨1, _⟩ => show win0_0.index t 1 * 256 + 1 * (j 1).val = (j 1).val; rw [(hi t).2]; omega

/-- The block of the text features is the array. -/
theorem X1_eq (t : Fin cfg0.N) : iblk m c 1 t = m ((c : Thread nD τ).loc main_arg1) := by
  have hi : ∀ t : Fin cfg0.N, win0_1.index t 0 = 0 ∧ win0_1.index t 1 = 0 :=
    (by decide +kernel : ∀ t : Fin grid0.N, win0_1.index t 0 = 0 ∧ win0_1.index t 1 = 0)
  funext j
  unfold iblk
  rw [View.read_apply]
  show m ((c : Thread nD τ).loc main_arg1) _ = m ((c : Thread nD τ).loc main_arg1) _
  congr 1
  funext a
  apply Fin.ext
  match a with
  | ⟨0, _⟩ => show win0_1.index t 0 * 1024 + 1 * (j 0).val = (j 0).val; rw [(hi t).1]; omega
  | ⟨1, _⟩ => show win0_1.index t 1 * 256 + 1 * (j 1).val = (j 1).val; rw [(hi t).2]; omega

/-- The block of the old image normalisers is the leading part of the array. -/
theorem X2_eq (t : Fin cfg0.N) : X0_2 m c t = lead (m ((c : Thread nD τ).loc main_arg3)) := by
  have hi : ∀ t : Fin cfg0.N, win0_2.index t 0 = 0 :=
    (by decide +kernel : ∀ t : Fin grid0.N, win0_2.index t 0 = 0)
  funext j
  unfold X0_2 Pipeline.Window.fill
  rw [dif_pos (moved0_2 t j)]
  unfold iblk lead
  rw [View.read_apply]
  show m ((c : Thread nD τ).loc main_arg3) _ = m ((c : Thread nD τ).loc main_arg3) _
  congr 1
  funext a
  apply Fin.ext
  match a with
  | ⟨0, _⟩ => show win0_2.index t 0 * 1024 + 1 * (j 0).val = (j 0).val; rw [hi t]; omega

/-- The block of the old text normalisers is the leading part of the array. -/
theorem X3_eq (t : Fin cfg0.N) : X0_3 m c t = lead (m ((c : Thread nD τ).loc main_arg4)) := by
  have hi : ∀ t : Fin cfg0.N, win0_3.index t 0 = 0 :=
    (by decide +kernel : ∀ t : Fin grid0.N, win0_3.index t 0 = 0)
  funext j
  unfold X0_3 Pipeline.Window.fill
  rw [dif_pos (moved0_3 t j)]
  unfold iblk lead
  rw [View.read_apply]
  show m ((c : Thread nD τ).loc main_arg4) _ = m ((c : Thread nD τ).loc main_arg4) _
  congr 1
  funext a
  apply Fin.ext
  match a with
  | ⟨0, _⟩ => show win0_3.index t 0 * 1024 + 1 * (j 0).val = (j 0).val; rw [hi t]; omega

/-- The block of the old image maxima is the leading part of the array. -/
theorem X4_eq (t : Fin cfg0.N) : X0_4 m c t = lead (m ((c : Thread nD τ).loc main_arg5)) := by
  have hi : ∀ t : Fin cfg0.N, win0_4.index t 0 = 0 :=
    (by decide +kernel : ∀ t : Fin grid0.N, win0_4.index t 0 = 0)
  funext j
  unfold X0_4 Pipeline.Window.fill
  rw [dif_pos (moved0_4 t j)]
  unfold iblk lead
  rw [View.read_apply]
  show m ((c : Thread nD τ).loc main_arg5) _ = m ((c : Thread nD τ).loc main_arg5) _
  congr 1
  funext a
  apply Fin.ext
  match a with
  | ⟨0, _⟩ => show win0_4.index t 0 * 1024 + 1 * (j 0).val = (j 0).val; rw [hi t]; omega

/-- The block of the old text maxima is the leading part of the array. -/
theorem X5_eq (t : Fin cfg0.N) : X0_5 m c t = lead (m ((c : Thread nD τ).loc main_arg6)) := by
  have hi : ∀ t : Fin cfg0.N, win0_5.index t 0 = 0 :=
    (by decide +kernel : ∀ t : Fin grid0.N, win0_5.index t 0 = 0)
  funext j
  unfold X0_5 Pipeline.Window.fill
  rw [dif_pos (moved0_5 t j)]
  unfold iblk lead
  rw [View.read_apply]
  show m ((c : Thread nD τ).loc main_arg6) _ = m ((c : Thread nD τ).loc main_arg6) _
  congr 1
  funext a
  apply Fin.ext
  match a with
  | ⟨0, _⟩ => show win0_5.index t 0 * 1024 + 1 * (j 0).val = (j 0).val; rw [hi t]; omega

/-- The block of the image temperatures is the leading part of the array. -/
theorem X6_eq (t : Fin cfg0.N) : X0_6 m c t = lead (m ((c : Thread nD τ).loc main_arg7)) := by
  have hi : ∀ t : Fin cfg0.N, win0_6.index t 0 = 0 :=
    (by decide +kernel : ∀ t : Fin grid0.N, win0_6.index t 0 = 0)
  funext j
  unfold X0_6 Pipeline.Window.fill
  rw [dif_pos (moved0_6 t j)]
  unfold iblk lead
  rw [View.read_apply]
  show m ((c : Thread nD τ).loc main_arg7) _ = m ((c : Thread nD τ).loc main_arg7) _
  congr 1
  funext a
  apply Fin.ext
  match a with
  | ⟨0, _⟩ => show win0_6.index t 0 * 1024 + 1 * (j 0).val = (j 0).val; rw [hi t]; omega

/-- The block of the text temperatures is the leading part of the array. -/
theorem X7_eq (t : Fin cfg0.N) : X0_7 m c t = lead (m ((c : Thread nD τ).loc main_arg8)) := by
  have hi : ∀ t : Fin cfg0.N, win0_7.index t 0 = 0 :=
    (by decide +kernel : ∀ t : Fin grid0.N, win0_7.index t 0 = 0)
  funext j
  unfold X0_7 Pipeline.Window.fill
  rw [dif_pos (moved0_7 t j)]
  unfold iblk lead
  rw [View.read_apply]
  show m ((c : Thread nD τ).loc main_arg8) _ = m ((c : Thread nD τ).loc main_arg8) _
  congr 1
  funext a
  apply Fin.ext
  match a with
  | ⟨0, _⟩ => show win0_7.index t 0 * 1024 + 1 * (j 0).val = (j 0).val; rw [hi t]; omega

/-- The block of the old image averages is the leading part of the array. -/
theorem X8_eq (t : Fin cfg0.N) : X0_8 m c t = lead (m ((c : Thread nD τ).loc main_arg9)) := by
  have hi : ∀ t : Fin cfg0.N, win0_8.index t 0 = 0 :=
    (by decide +kernel : ∀ t : Fin grid0.N, win0_8.index t 0 = 0)
  funext j
  unfold X0_8 Pipeline.Window.fill
  rw [dif_pos (moved0_8 t j)]
  unfold iblk lead
  rw [View.read_apply]
  show m ((c : Thread nD τ).loc main_arg9) _ = m ((c : Thread nD τ).loc main_arg9) _
  congr 1
  funext a
  apply Fin.ext
  match a with
  | ⟨0, _⟩ => show win0_8.index t 0 * 1024 + 1 * (j 0).val = (j 0).val; rw [hi t]; omega

/-- The block of the old text averages is the leading part of the array. -/
theorem X9_eq (t : Fin cfg0.N) : X0_9 m c t = lead (m ((c : Thread nD τ).loc main_arg10)) := by
  have hi : ∀ t : Fin cfg0.N, win0_9.index t 0 = 0 :=
    (by decide +kernel : ∀ t : Fin grid0.N, win0_9.index t 0 = 0)
  funext j
  unfold X0_9 Pipeline.Window.fill
  rw [dif_pos (moved0_9 t j)]
  unfold iblk lead
  rw [View.read_apply]
  show m ((c : Thread nD τ).loc main_arg10) _ = m ((c : Thread nD τ).loc main_arg10) _
  congr 1
  funext a
  apply Fin.ext
  match a with
  | ⟨0, _⟩ => show win0_9.index t 0 * 1024 + 1 * (j 0).val = (j 0).val; rw [hi t]; omega

/-! ## The result arrays -/

/-- Result 0: the sums off the diagonal of the images. -/
abbrev res10 : Vec F S1x1024 .f32 :=
  gI (m ((c : Thread nD τ).loc main_arg0)) (m ((c : Thread nD τ).loc main_arg1))
      (lead (m ((c : Thread nD τ).loc main_arg3))) (lead (m ((c : Thread nD τ).loc main_arg4))) (lead (m ((c : Thread nD τ).loc main_arg5)))
      (lead (m ((c : Thread nD τ).loc main_arg6))) (lead (m ((c : Thread nD τ).loc main_arg7))) (lead (m ((c : Thread nD τ).loc main_arg8)))
      (lead (m ((c : Thread nD τ).loc main_arg9))) (lead (m ((c : Thread nD τ).loc main_arg10)))

/-- The one write-back of result 0 writes it. -/
theorem flushed10_eq (t : Fin cfg0.N) (hf : (cfg0.win 10).flush t = true) :
    (dats m 0 c).flushed 10 t = ((cfg0.win 10).blk t).view.read (Elt F) (res10 c m) := by
  rw [flushed10_A, out10, X0_eq, X1_eq, X2_eq, X3_eq, X4_eq, X5_eq, X6_eq, X7_eq, X8_eq, X9_eq]
  have hi : ∀ t : Fin cfg0.N, ∀ a, win0_10.index t a * main_v0_0.ty.shape.size a = 0 :=
    (by decide +kernel : ∀ t : Fin grid0.N, ∀ a, win0_10.index t a * main_v0_0.ty.shape.size a = 0)
  have hz' : (fun a => win0_10.index t a * main_v0_0.ty.shape.size a) = fun _ => 0 := funext (hi t)
  exact (Memref.read_access_unit_zero (Elt F) main_v0_0 hz' (fun a => by rw [congrFun hz' a]; simp) (res10 c m)).symm

/-- Result 0 after the run: the one block covers it. -/
theorem final10 : (dats m 0 c).arrAt 10 cfg0.N = res10 c m :=
  (dats m 0 c).arrAt_eq_of_cover 10 (res10 c m) (flushed10_eq c m) fun i =>
    ⟨t0_0, flush0_10 t0_0, by
      show i ∈ ((View.whole main_v0_0).slice (win0_10.rect t0_0)).set
      rw [View.set_slice_whole, Rect.mem_set_unit]
      intro a
      have h0 : (i 0 : Nat) < 1 := (i 0).isLt
      have h1 : (i 1 : Nat) < 1024 := (i 1).isLt
      have hi : ∀ (t : Fin cfg0.N) a, win0_10.index t a * win0_10.size a = 0 :=
        (by decide +kernel : ∀ (t : Fin grid0.N) a, win0_10.index t a * win0_10.size a = 0)
      have hx : ∀ t : Fin cfg0.N, win0_10.xsize (grid0.coords t) 0 = 1 ∧ win0_10.xsize (grid0.coords t) 1 = 1024 :=
        (by decide +kernel : ∀ t : Fin grid0.N, win0_10.xsize (grid0.coords t) 0 = 1 ∧ win0_10.xsize (grid0.coords t) 1 = 1024)
      match a with
      | ⟨0, _⟩ =>
        show win0_10.index t0_0 0 * win0_10.size 0 ≤ (i 0 : Nat)
          ∧ (i 0 : Nat) < win0_10.index t0_0 0 * win0_10.size 0 + win0_10.xsize (grid0.coords t0_0) 0
        rw [hi _ 0, (hx _).1]; omega
      | ⟨1, _⟩ =>
        show win0_10.index t0_0 1 * win0_10.size 1 ≤ (i 1 : Nat)
          ∧ (i 1 : Nat) < win0_10.index t0_0 1 * win0_10.size 1 + win0_10.xsize (grid0.coords t0_0) 1
        rw [hi _ 1, (hx _).2]; omega⟩

/-- Result 1: the sums off the diagonal of the texts. -/
abbrev res11 : Vec F S1x1024 .f32 :=
  gT (m ((c : Thread nD τ).loc main_arg0)) (m ((c : Thread nD τ).loc main_arg1))
      (lead (m ((c : Thread nD τ).loc main_arg3))) (lead (m ((c : Thread nD τ).loc main_arg4))) (lead (m ((c : Thread nD τ).loc main_arg5)))
      (lead (m ((c : Thread nD τ).loc main_arg6))) (lead (m ((c : Thread nD τ).loc main_arg7))) (lead (m ((c : Thread nD τ).loc main_arg8)))
      (lead (m ((c : Thread nD τ).loc main_arg9))) (lead (m ((c : Thread nD τ).loc main_arg10)))

/-- The one write-back of result 1 writes it. -/
theorem flushed11_eq (t : Fin cfg0.N) (hf : (cfg0.win 11).flush t = true) :
    (dats m 0 c).flushed 11 t = ((cfg0.win 11).blk t).view.read (Elt F) (res11 c m) := by
  rw [flushed11_A, out11, X0_eq, X1_eq, X2_eq, X3_eq, X4_eq, X5_eq, X6_eq, X7_eq, X8_eq, X9_eq]
  have hi : ∀ t : Fin cfg0.N, ∀ a, win0_11.index t a * main_v0_1.ty.shape.size a = 0 :=
    (by decide +kernel : ∀ t : Fin grid0.N, ∀ a, win0_11.index t a * main_v0_1.ty.shape.size a = 0)
  have hz' : (fun a => win0_11.index t a * main_v0_1.ty.shape.size a) = fun _ => 0 := funext (hi t)
  exact (Memref.read_access_unit_zero (Elt F) main_v0_1 hz' (fun a => by rw [congrFun hz' a]; simp) (res11 c m)).symm

/-- Result 1 after the run: the one block covers it. -/
theorem final11 : (dats m 0 c).arrAt 11 cfg0.N = res11 c m :=
  (dats m 0 c).arrAt_eq_of_cover 11 (res11 c m) (flushed11_eq c m) fun i =>
    ⟨t0_0, flush0_11 t0_0, by
      show i ∈ ((View.whole main_v0_1).slice (win0_11.rect t0_0)).set
      rw [View.set_slice_whole, Rect.mem_set_unit]
      intro a
      have h0 : (i 0 : Nat) < 1 := (i 0).isLt
      have h1 : (i 1 : Nat) < 1024 := (i 1).isLt
      have hi : ∀ (t : Fin cfg0.N) a, win0_11.index t a * win0_11.size a = 0 :=
        (by decide +kernel : ∀ (t : Fin grid0.N) a, win0_11.index t a * win0_11.size a = 0)
      have hx : ∀ t : Fin cfg0.N, win0_11.xsize (grid0.coords t) 0 = 1 ∧ win0_11.xsize (grid0.coords t) 1 = 1024 :=
        (by decide +kernel : ∀ t : Fin grid0.N, win0_11.xsize (grid0.coords t) 0 = 1 ∧ win0_11.xsize (grid0.coords t) 1 = 1024)
      match a with
      | ⟨0, _⟩ =>
        show win0_11.index t0_0 0 * win0_11.size 0 ≤ (i 0 : Nat)
          ∧ (i 0 : Nat) < win0_11.index t0_0 0 * win0_11.size 0 + win0_11.xsize (grid0.coords t0_0) 0
        rw [hi _ 0, (hx _).1]; omega
      | ⟨1, _⟩ =>
        show win0_11.index t0_0 1 * win0_11.size 1 ≤ (i 1 : Nat)
          ∧ (i 1 : Nat) < win0_11.index t0_0 1 * win0_11.size 1 + win0_11.xsize (grid0.coords t0_0) 1
        rw [hi _ 1, (hx _).2]; omega⟩

/-- Result 2: the temperature gradients of the images. -/
abbrev res12 : Vec F S1x1024 .f32 :=
  dI (m ((c : Thread nD τ).loc main_arg0)) (m ((c : Thread nD τ).loc main_arg1))
      (lead (m ((c : Thread nD τ).loc main_arg3))) (lead (m ((c : Thread nD τ).loc main_arg4))) (lead (m ((c : Thread nD τ).loc main_arg5)))
      (lead (m ((c : Thread nD τ).loc main_arg6))) (lead (m ((c : Thread nD τ).loc main_arg7))) (lead (m ((c : Thread nD τ).loc main_arg8)))
      (lead (m ((c : Thread nD τ).loc main_arg9))) (lead (m ((c : Thread nD τ).loc main_arg10)))

/-- The one write-back of result 2 writes it. -/
theorem flushed12_eq (t : Fin cfg0.N) (hf : (cfg0.win 12).flush t = true) :
    (dats m 0 c).flushed 12 t = ((cfg0.win 12).blk t).view.read (Elt F) (res12 c m) := by
  rw [flushed12_A, out12, X0_eq, X1_eq, X2_eq, X3_eq, X4_eq, X5_eq, X6_eq, X7_eq, X8_eq, X9_eq]
  have hi : ∀ t : Fin cfg0.N, ∀ a, win0_12.index t a * main_v0_2.ty.shape.size a = 0 :=
    (by decide +kernel : ∀ t : Fin grid0.N, ∀ a, win0_12.index t a * main_v0_2.ty.shape.size a = 0)
  have hz' : (fun a => win0_12.index t a * main_v0_2.ty.shape.size a) = fun _ => 0 := funext (hi t)
  exact (Memref.read_access_unit_zero (Elt F) main_v0_2 hz' (fun a => by rw [congrFun hz' a]; simp) (res12 c m)).symm

/-- Result 2 after the run: the one block covers it. -/
theorem final12 : (dats m 0 c).arrAt 12 cfg0.N = res12 c m :=
  (dats m 0 c).arrAt_eq_of_cover 12 (res12 c m) (flushed12_eq c m) fun i =>
    ⟨t0_0, flush0_12 t0_0, by
      show i ∈ ((View.whole main_v0_2).slice (win0_12.rect t0_0)).set
      rw [View.set_slice_whole, Rect.mem_set_unit]
      intro a
      have h0 : (i 0 : Nat) < 1 := (i 0).isLt
      have h1 : (i 1 : Nat) < 1024 := (i 1).isLt
      have hi : ∀ (t : Fin cfg0.N) a, win0_12.index t a * win0_12.size a = 0 :=
        (by decide +kernel : ∀ (t : Fin grid0.N) a, win0_12.index t a * win0_12.size a = 0)
      have hx : ∀ t : Fin cfg0.N, win0_12.xsize (grid0.coords t) 0 = 1 ∧ win0_12.xsize (grid0.coords t) 1 = 1024 :=
        (by decide +kernel : ∀ t : Fin grid0.N, win0_12.xsize (grid0.coords t) 0 = 1 ∧ win0_12.xsize (grid0.coords t) 1 = 1024)
      match a with
      | ⟨0, _⟩ =>
        show win0_12.index t0_0 0 * win0_12.size 0 ≤ (i 0 : Nat)
          ∧ (i 0 : Nat) < win0_12.index t0_0 0 * win0_12.size 0 + win0_12.xsize (grid0.coords t0_0) 0
        rw [hi _ 0, (hx _).1]; omega
      | ⟨1, _⟩ =>
        show win0_12.index t0_0 1 * win0_12.size 1 ≤ (i 1 : Nat)
          ∧ (i 1 : Nat) < win0_12.index t0_0 1 * win0_12.size 1 + win0_12.xsize (grid0.coords t0_0) 1
        rw [hi _ 1, (hx _).2]; omega⟩

/-- Result 3: the temperature gradients of the texts. -/
abbrev res13 : Vec F S1x1024 .f32 :=
  dT (m ((c : Thread nD τ).loc main_arg0)) (m ((c : Thread nD τ).loc main_arg1))
      (lead (m ((c : Thread nD τ).loc main_arg3))) (lead (m ((c : Thread nD τ).loc main_arg4))) (lead (m ((c : Thread nD τ).loc main_arg5)))
      (lead (m ((c : Thread nD τ).loc main_arg6))) (lead (m ((c : Thread nD τ).loc main_arg7))) (lead (m ((c : Thread nD τ).loc main_arg8)))
      (lead (m ((c : Thread nD τ).loc main_arg9))) (lead (m ((c : Thread nD τ).loc main_arg10)))

/-- The one write-back of result 3 writes it. -/
theorem flushed13_eq (t : Fin cfg0.N) (hf : (cfg0.win 13).flush t = true) :
    (dats m 0 c).flushed 13 t = ((cfg0.win 13).blk t).view.read (Elt F) (res13 c m) := by
  rw [flushed13_A, out13, X0_eq, X1_eq, X2_eq, X3_eq, X4_eq, X5_eq, X6_eq, X7_eq, X8_eq, X9_eq]
  have hi : ∀ t : Fin cfg0.N, ∀ a, win0_13.index t a * main_v0_3.ty.shape.size a = 0 :=
    (by decide +kernel : ∀ t : Fin grid0.N, ∀ a, win0_13.index t a * main_v0_3.ty.shape.size a = 0)
  have hz' : (fun a => win0_13.index t a * main_v0_3.ty.shape.size a) = fun _ => 0 := funext (hi t)
  exact (Memref.read_access_unit_zero (Elt F) main_v0_3 hz' (fun a => by rw [congrFun hz' a]; simp) (res13 c m)).symm

/-- Result 3 after the run: the one block covers it. -/
theorem final13 : (dats m 0 c).arrAt 13 cfg0.N = res13 c m :=
  (dats m 0 c).arrAt_eq_of_cover 13 (res13 c m) (flushed13_eq c m) fun i =>
    ⟨t0_0, flush0_13 t0_0, by
      show i ∈ ((View.whole main_v0_3).slice (win0_13.rect t0_0)).set
      rw [View.set_slice_whole, Rect.mem_set_unit]
      intro a
      have h0 : (i 0 : Nat) < 1 := (i 0).isLt
      have h1 : (i 1 : Nat) < 1024 := (i 1).isLt
      have hi : ∀ (t : Fin cfg0.N) a, win0_13.index t a * win0_13.size a = 0 :=
        (by decide +kernel : ∀ (t : Fin grid0.N) a, win0_13.index t a * win0_13.size a = 0)
      have hx : ∀ t : Fin cfg0.N, win0_13.xsize (grid0.coords t) 0 = 1 ∧ win0_13.xsize (grid0.coords t) 1 = 1024 :=
        (by decide +kernel : ∀ t : Fin grid0.N, win0_13.xsize (grid0.coords t) 0 = 1 ∧ win0_13.xsize (grid0.coords t) 1 = 1024)
      match a with
      | ⟨0, _⟩ =>
        show win0_13.index t0_0 0 * win0_13.size 0 ≤ (i 0 : Nat)
          ∧ (i 0 : Nat) < win0_13.index t0_0 0 * win0_13.size 0 + win0_13.xsize (grid0.coords t0_0) 0
        rw [hi _ 0, (hx _).1]; omega
      | ⟨1, _⟩ =>
        show win0_13.index t0_0 1 * win0_13.size 1 ≤ (i 1 : Nat)
          ∧ (i 1 : Nat) < win0_13.index t0_0 1 * win0_13.size 1 + win0_13.xsize (grid0.coords t0_0) 1
        rw [hi _ 1, (hx _).2]; omega⟩

/-- Result 4: the new normalisers of the images. -/
abbrev res14 : Vec F S1x1024 .f32 :=
  sI (m ((c : Thread nD τ).loc main_arg0)) (m ((c : Thread nD τ).loc main_arg1))
      (lead (m ((c : Thread nD τ).loc main_arg3))) (lead (m ((c : Thread nD τ).loc main_arg4))) (lead (m ((c : Thread nD τ).loc main_arg5)))
      (lead (m ((c : Thread nD τ).loc main_arg6))) (lead (m ((c : Thread nD τ).loc main_arg7))) (lead (m ((c : Thread nD τ).loc main_arg8)))
      (lead (m ((c : Thread nD τ).loc main_arg9))) (lead (m ((c : Thread nD τ).loc main_arg10)))

/-- The one write-back of result 4 writes it. -/
theorem flushed14_eq (t : Fin cfg0.N) (hf : (cfg0.win 14).flush t = true) :
    (dats m 0 c).flushed 14 t = ((cfg0.win 14).blk t).view.read (Elt F) (res14 c m) := by
  rw [flushed14_A, out14, X0_eq, X1_eq, X2_eq, X3_eq, X4_eq, X5_eq, X6_eq, X7_eq, X8_eq, X9_eq]
  have hi : ∀ t : Fin cfg0.N, ∀ a, win0_14.index t a * main_v0_4.ty.shape.size a = 0 :=
    (by decide +kernel : ∀ t : Fin grid0.N, ∀ a, win0_14.index t a * main_v0_4.ty.shape.size a = 0)
  have hz' : (fun a => win0_14.index t a * main_v0_4.ty.shape.size a) = fun _ => 0 := funext (hi t)
  exact (Memref.read_access_unit_zero (Elt F) main_v0_4 hz' (fun a => by rw [congrFun hz' a]; simp) (res14 c m)).symm

/-- Result 4 after the run: the one block covers it. -/
theorem final14 : (dats m 0 c).arrAt 14 cfg0.N = res14 c m :=
  (dats m 0 c).arrAt_eq_of_cover 14 (res14 c m) (flushed14_eq c m) fun i =>
    ⟨t0_0, flush0_14 t0_0, by
      show i ∈ ((View.whole main_v0_4).slice (win0_14.rect t0_0)).set
      rw [View.set_slice_whole, Rect.mem_set_unit]
      intro a
      have h0 : (i 0 : Nat) < 1 := (i 0).isLt
      have h1 : (i 1 : Nat) < 1024 := (i 1).isLt
      have hi : ∀ (t : Fin cfg0.N) a, win0_14.index t a * win0_14.size a = 0 :=
        (by decide +kernel : ∀ (t : Fin grid0.N) a, win0_14.index t a * win0_14.size a = 0)
      have hx : ∀ t : Fin cfg0.N, win0_14.xsize (grid0.coords t) 0 = 1 ∧ win0_14.xsize (grid0.coords t) 1 = 1024 :=
        (by decide +kernel : ∀ t : Fin grid0.N, win0_14.xsize (grid0.coords t) 0 = 1 ∧ win0_14.xsize (grid0.coords t) 1 = 1024)
      match a with
      | ⟨0, _⟩ =>
        show win0_14.index t0_0 0 * win0_14.size 0 ≤ (i 0 : Nat)
          ∧ (i 0 : Nat) < win0_14.index t0_0 0 * win0_14.size 0 + win0_14.xsize (grid0.coords t0_0) 0
        rw [hi _ 0, (hx _).1]; omega
      | ⟨1, _⟩ =>
        show win0_14.index t0_0 1 * win0_14.size 1 ≤ (i 1 : Nat)
          ∧ (i 1 : Nat) < win0_14.index t0_0 1 * win0_14.size 1 + win0_14.xsize (grid0.coords t0_0) 1
        rw [hi _ 1, (hx _).2]; omega⟩

/-- Result 5: the new normalisers of the texts. -/
abbrev res15 : Vec F S1x1024 .f32 :=
  sT (m ((c : Thread nD τ).loc main_arg0)) (m ((c : Thread nD τ).loc main_arg1))
      (lead (m ((c : Thread nD τ).loc main_arg3))) (lead (m ((c : Thread nD τ).loc main_arg4))) (lead (m ((c : Thread nD τ).loc main_arg5)))
      (lead (m ((c : Thread nD τ).loc main_arg6))) (lead (m ((c : Thread nD τ).loc main_arg7))) (lead (m ((c : Thread nD τ).loc main_arg8)))
      (lead (m ((c : Thread nD τ).loc main_arg9))) (lead (m ((c : Thread nD τ).loc main_arg10)))

/-- The one write-back of result 5 writes it. -/
theorem flushed15_eq (t : Fin cfg0.N) (hf : (cfg0.win 15).flush t = true) :
    (dats m 0 c).flushed 15 t = ((cfg0.win 15).blk t).view.read (Elt F) (res15 c m) := by
  rw [flushed15_A, out15, X0_eq, X1_eq, X2_eq, X3_eq, X4_eq, X5_eq, X6_eq, X7_eq, X8_eq, X9_eq]
  have hi : ∀ t : Fin cfg0.N, ∀ a, win0_15.index t a * main_v0_5.ty.shape.size a = 0 :=
    (by decide +kernel : ∀ t : Fin grid0.N, ∀ a, win0_15.index t a * main_v0_5.ty.shape.size a = 0)
  have hz' : (fun a => win0_15.index t a * main_v0_5.ty.shape.size a) = fun _ => 0 := funext (hi t)
  exact (Memref.read_access_unit_zero (Elt F) main_v0_5 hz' (fun a => by rw [congrFun hz' a]; simp) (res15 c m)).symm

/-- Result 5 after the run: the one block covers it. -/
theorem final15 : (dats m 0 c).arrAt 15 cfg0.N = res15 c m :=
  (dats m 0 c).arrAt_eq_of_cover 15 (res15 c m) (flushed15_eq c m) fun i =>
    ⟨t0_0, flush0_15 t0_0, by
      show i ∈ ((View.whole main_v0_5).slice (win0_15.rect t0_0)).set
      rw [View.set_slice_whole, Rect.mem_set_unit]
      intro a
      have h0 : (i 0 : Nat) < 1 := (i 0).isLt
      have h1 : (i 1 : Nat) < 1024 := (i 1).isLt
      have hi : ∀ (t : Fin cfg0.N) a, win0_15.index t a * win0_15.size a = 0 :=
        (by decide +kernel : ∀ (t : Fin grid0.N) a, win0_15.index t a * win0_15.size a = 0)
      have hx : ∀ t : Fin cfg0.N, win0_15.xsize (grid0.coords t) 0 = 1 ∧ win0_15.xsize (grid0.coords t) 1 = 1024 :=
        (by decide +kernel : ∀ t : Fin grid0.N, win0_15.xsize (grid0.coords t) 0 = 1 ∧ win0_15.xsize (grid0.coords t) 1 = 1024)
      match a with
      | ⟨0, _⟩ =>
        show win0_15.index t0_0 0 * win0_15.size 0 ≤ (i 0 : Nat)
          ∧ (i 0 : Nat) < win0_15.index t0_0 0 * win0_15.size 0 + win0_15.xsize (grid0.coords t0_0) 0
        rw [hi _ 0, (hx _).1]; omega
      | ⟨1, _⟩ =>
        show win0_15.index t0_0 1 * win0_15.size 1 ≤ (i 1 : Nat)
          ∧ (i 1 : Nat) < win0_15.index t0_0 1 * win0_15.size 1 + win0_15.xsize (grid0.coords t0_0) 1
        rw [hi _ 1, (hx _).2]; omega⟩

/-- Result 6: the new average gradients of the images. -/
abbrev res16 : Vec F S1x1024 .f32 :=
  uI (m ((c : Thread nD τ).loc main_arg0)) (m ((c : Thread nD τ).loc main_arg1))
      (lead (m ((c : Thread nD τ).loc main_arg3))) (lead (m ((c : Thread nD τ).loc main_arg4))) (lead (m ((c : Thread nD τ).loc main_arg5)))
      (lead (m ((c : Thread nD τ).loc main_arg6))) (lead (m ((c : Thread nD τ).loc main_arg7))) (lead (m ((c : Thread nD τ).loc main_arg8)))
      (lead (m ((c : Thread nD τ).loc main_arg9))) (lead (m ((c : Thread nD τ).loc main_arg10)))

/-- The one write-back of result 6 writes it. -/
theorem flushed16_eq (t : Fin cfg0.N) (hf : (cfg0.win 16).flush t = true) :
    (dats m 0 c).flushed 16 t = ((cfg0.win 16).blk t).view.read (Elt F) (res16 c m) := by
  rw [flushed16_A, out16, X0_eq, X1_eq, X2_eq, X3_eq, X4_eq, X5_eq, X6_eq, X7_eq, X8_eq, X9_eq]
  have hi : ∀ t : Fin cfg0.N, ∀ a, win0_16.index t a * main_v0_6.ty.shape.size a = 0 :=
    (by decide +kernel : ∀ t : Fin grid0.N, ∀ a, win0_16.index t a * main_v0_6.ty.shape.size a = 0)
  have hz' : (fun a => win0_16.index t a * main_v0_6.ty.shape.size a) = fun _ => 0 := funext (hi t)
  exact (Memref.read_access_unit_zero (Elt F) main_v0_6 hz' (fun a => by rw [congrFun hz' a]; simp) (res16 c m)).symm

/-- Result 6 after the run: the one block covers it. -/
theorem final16 : (dats m 0 c).arrAt 16 cfg0.N = res16 c m :=
  (dats m 0 c).arrAt_eq_of_cover 16 (res16 c m) (flushed16_eq c m) fun i =>
    ⟨t0_0, flush0_16 t0_0, by
      show i ∈ ((View.whole main_v0_6).slice (win0_16.rect t0_0)).set
      rw [View.set_slice_whole, Rect.mem_set_unit]
      intro a
      have h0 : (i 0 : Nat) < 1 := (i 0).isLt
      have h1 : (i 1 : Nat) < 1024 := (i 1).isLt
      have hi : ∀ (t : Fin cfg0.N) a, win0_16.index t a * win0_16.size a = 0 :=
        (by decide +kernel : ∀ (t : Fin grid0.N) a, win0_16.index t a * win0_16.size a = 0)
      have hx : ∀ t : Fin cfg0.N, win0_16.xsize (grid0.coords t) 0 = 1 ∧ win0_16.xsize (grid0.coords t) 1 = 1024 :=
        (by decide +kernel : ∀ t : Fin grid0.N, win0_16.xsize (grid0.coords t) 0 = 1 ∧ win0_16.xsize (grid0.coords t) 1 = 1024)
      match a with
      | ⟨0, _⟩ =>
        show win0_16.index t0_0 0 * win0_16.size 0 ≤ (i 0 : Nat)
          ∧ (i 0 : Nat) < win0_16.index t0_0 0 * win0_16.size 0 + win0_16.xsize (grid0.coords t0_0) 0
        rw [hi _ 0, (hx _).1]; omega
      | ⟨1, _⟩ =>
        show win0_16.index t0_0 1 * win0_16.size 1 ≤ (i 1 : Nat)
          ∧ (i 1 : Nat) < win0_16.index t0_0 1 * win0_16.size 1 + win0_16.xsize (grid0.coords t0_0) 1
        rw [hi _ 1, (hx _).2]; omega⟩

/-- Result 7: the new average gradients of the texts. -/
abbrev res17 : Vec F S1x1024 .f32 :=
  uT (m ((c : Thread nD τ).loc main_arg0)) (m ((c : Thread nD τ).loc main_arg1))
      (lead (m ((c : Thread nD τ).loc main_arg3))) (lead (m ((c : Thread nD τ).loc main_arg4))) (lead (m ((c : Thread nD τ).loc main_arg5)))
      (lead (m ((c : Thread nD τ).loc main_arg6))) (lead (m ((c : Thread nD τ).loc main_arg7))) (lead (m ((c : Thread nD τ).loc main_arg8)))
      (lead (m ((c : Thread nD τ).loc main_arg9))) (lead (m ((c : Thread nD τ).loc main_arg10)))

/-- The one write-back of result 7 writes it. -/
theorem flushed17_eq (t : Fin cfg0.N) (hf : (cfg0.win 17).flush t = true) :
    (dats m 0 c).flushed 17 t = ((cfg0.win 17).blk t).view.read (Elt F) (res17 c m) := by
  rw [flushed17_A, out17, X0_eq, X1_eq, X2_eq, X3_eq, X4_eq, X5_eq, X6_eq, X7_eq, X8_eq, X9_eq]
  have hi : ∀ t : Fin cfg0.N, ∀ a, win0_17.index t a * main_v0_7.ty.shape.size a = 0 :=
    (by decide +kernel : ∀ t : Fin grid0.N, ∀ a, win0_17.index t a * main_v0_7.ty.shape.size a = 0)
  have hz' : (fun a => win0_17.index t a * main_v0_7.ty.shape.size a) = fun _ => 0 := funext (hi t)
  exact (Memref.read_access_unit_zero (Elt F) main_v0_7 hz' (fun a => by rw [congrFun hz' a]; simp) (res17 c m)).symm

/-- Result 7 after the run: the one block covers it. -/
theorem final17 : (dats m 0 c).arrAt 17 cfg0.N = res17 c m :=
  (dats m 0 c).arrAt_eq_of_cover 17 (res17 c m) (flushed17_eq c m) fun i =>
    ⟨t0_0, flush0_17 t0_0, by
      show i ∈ ((View.whole main_v0_7).slice (win0_17.rect t0_0)).set
      rw [View.set_slice_whole, Rect.mem_set_unit]
      intro a
      have h0 : (i 0 : Nat) < 1 := (i 0).isLt
      have h1 : (i 1 : Nat) < 1024 := (i 1).isLt
      have hi : ∀ (t : Fin cfg0.N) a, win0_17.index t a * win0_17.size a = 0 :=
        (by decide +kernel : ∀ (t : Fin grid0.N) a, win0_17.index t a * win0_17.size a = 0)
      have hx : ∀ t : Fin cfg0.N, win0_17.xsize (grid0.coords t) 0 = 1 ∧ win0_17.xsize (grid0.coords t) 1 = 1024 :=
        (by decide +kernel : ∀ t : Fin grid0.N, win0_17.xsize (grid0.coords t) 0 = 1 ∧ win0_17.xsize (grid0.coords t) 1 = 1024)
      match a with
      | ⟨0, _⟩ =>
        show win0_17.index t0_0 0 * win0_17.size 0 ≤ (i 0 : Nat)
          ∧ (i 0 : Nat) < win0_17.index t0_0 0 * win0_17.size 0 + win0_17.xsize (grid0.coords t0_0) 0
        rw [hi _ 0, (hx _).1]; omega
      | ⟨1, _⟩ =>
        show win0_17.index t0_0 1 * win0_17.size 1 ≤ (i 1 : Nat)
          ∧ (i 1 : Nat) < win0_17.index t0_0 1 * win0_17.size 1 + win0_17.xsize (grid0.coords t0_0) 1
        rw [hi _ 1, (hx _).2]; omega⟩

/-- Result 8: the row of scalars. -/
abbrev res18 : Vec F S1x128 .f32 :=
  sc (m ((c : Thread nD τ).loc main_arg0)) (m ((c : Thread nD τ).loc main_arg1))
      (lead (m ((c : Thread nD τ).loc main_arg3))) (lead (m ((c : Thread nD τ).loc main_arg4))) (lead (m ((c : Thread nD τ).loc main_arg5)))
      (lead (m ((c : Thread nD τ).loc main_arg6))) (lead (m ((c : Thread nD τ).loc main_arg7))) (lead (m ((c : Thread nD τ).loc main_arg8)))
      (lead (m ((c : Thread nD τ).loc main_arg9))) (lead (m ((c : Thread nD τ).loc main_arg10)))

/-- The one write-back of result 8 writes it. -/
theorem flushed18_eq (t : Fin cfg0.N) (hf : (cfg0.win 18).flush t = true) :
    (dats m 0 c).flushed 18 t = ((cfg0.win 18).blk t).view.read (Elt F) (res18 c m) := by
  rw [flushed18_A, out18, X0_eq, X1_eq, X2_eq, X3_eq, X4_eq, X5_eq, X6_eq, X7_eq, X8_eq, X9_eq]
  have hi : ∀ t : Fin cfg0.N, ∀ a, win0_18.index t a * main_v0_8.ty.shape.size a = 0 :=
    (by decide +kernel : ∀ t : Fin grid0.N, ∀ a, win0_18.index t a * main_v0_8.ty.shape.size a = 0)
  have hz' : (fun a => win0_18.index t a * main_v0_8.ty.shape.size a) = fun _ => 0 := funext (hi t)
  exact (Memref.read_access_unit_zero (Elt F) main_v0_8 hz' (fun a => by rw [congrFun hz' a]; simp) (res18 c m)).symm

/-- Result 8 after the run: the one block covers it. -/
theorem final18 : (dats m 0 c).arrAt 18 cfg0.N = res18 c m :=
  (dats m 0 c).arrAt_eq_of_cover 18 (res18 c m) (flushed18_eq c m) fun i =>
    ⟨t0_0, flush0_18 t0_0, by
      show i ∈ ((View.whole main_v0_8).slice (win0_18.rect t0_0)).set
      rw [View.set_slice_whole, Rect.mem_set_unit]
      intro a
      have h0 : (i 0 : Nat) < 1 := (i 0).isLt
      have h1 : (i 1 : Nat) < 128 := (i 1).isLt
      have hi : ∀ (t : Fin cfg0.N) a, win0_18.index t a * win0_18.size a = 0 :=
        (by decide +kernel : ∀ (t : Fin grid0.N) a, win0_18.index t a * win0_18.size a = 0)
      have hx : ∀ t : Fin cfg0.N, win0_18.xsize (grid0.coords t) 0 = 1 ∧ win0_18.xsize (grid0.coords t) 1 = 128 :=
        (by decide +kernel : ∀ t : Fin grid0.N, win0_18.xsize (grid0.coords t) 0 = 1 ∧ win0_18.xsize (grid0.coords t) 1 = 128)
      match a with
      | ⟨0, _⟩ =>
        show win0_18.index t0_0 0 * win0_18.size 0 ≤ (i 0 : Nat)
          ∧ (i 0 : Nat) < win0_18.index t0_0 0 * win0_18.size 0 + win0_18.xsize (grid0.coords t0_0) 0
        rw [hi _ 0, (hx _).1]; omega
      | ⟨1, _⟩ =>
        show win0_18.index t0_0 1 * win0_18.size 1 ≤ (i 1 : Nat)
          ∧ (i 1 : Nat) < win0_18.index t0_0 1 * win0_18.size 1 + win0_18.xsize (grid0.coords t0_0) 1
        rw [hi _ 1, (hx _).2]; omega⟩

end Cert.KernelOut

end
-- ==== Proof.RefRows.lean ====
/-
  The reference's values over the feature rows and the looked-up state, read at an index.
-/
module

public import proofs.«01_k».proof.Proof.Column
public import proofs.«01_k».proof.Proof.Consts
public import proofs.«01_k».proof.Proof.Gen.ReferenceIdeal.Read
public import Idealize.ShloMosaic.Lib.Pointwise
public import Idealize.ShloMosaic.Lib.Routing.OpsSearch
public import Idealize.ShloMosaic.Lib.Routing.OpsPair

@[expose] public section

noncomputable section

namespace Cert.RefRead

open Idealize.ShloMosaic Idealize.ShloMosaic.Pointwise Cert.ReferenceIdeal Cert.ReferenceIdeal.Gen
open Cert.ReferenceIdeal.Read Cert.Column

variable (x0 x1 : FVec Ideal S1024x256 .f32) (x2 : IVec S1024 32) (i j : Fin 1024) (x : FVec Ideal S1000000 .f32)

/-- Two row numbers' words compared, as a number. -/
theorem eye_entry : (FloatOps.uitofp (F := Ideal) FTy.f32
    (IntOp.cmpi CmpIPredicate.eq (IntOp.addi (BitVec.ofNat 32 i.val) 0#32) (BitVec.ofNat 32 j.val)) : EReal)
      = if i = j then 1 else 0 := by
  have h : IntOp.cmpi CmpIPredicate.eq (IntOp.addi (BitVec.ofNat 32 i.val) 0#32) (BitVec.ofNat 32 j.val)
      = if i = j then 1#1 else 0#1 := by
    have h1 := i.isLt
    have h2 := j.isLt
    have hw : BitVec.ofNat 32 i.val = BitVec.ofNat 32 j.val ↔ i = j :=
      ⟨fun h => by
        have := congrArg BitVec.toNat h
        simp only [BitVec.toNat_ofNat] at this
        exact Fin.ext (by omega), fun h => by rw [h]⟩
    by_cases hij : i = j
    · simp [IntOp.cmpi, IntOp.addi, hij]
    · have hb : (BitVec.ofNat 32 i.val == BitVec.ofNat 32 j.val) = false := beq_eq_false_iff_ne.mpr fun h => hij (hw.mp h)
      simp [IntOp.cmpi, IntOp.addi, hb, hij]
  rw [h]
  show (((if i = j then 1#1 else 0#1 : BitVec 1).toNat : ℝ) : EReal) = _
  split_ifs <;> simp

/-- The diagonal's mask. -/
theorem v5_ap : val_main_v5 (F := Ideal) (ix2 i j) = if i = j then 1 else 0 := by
  pointwise [val_main_v5, val_main_v4, val_main_v3, val_main_v2, val_main_v1, val_main_v0, val_main_c]
  exact eye_entry i j

/-- The diagonal's mask, made again. -/
theorem v22_ap : val_main_v22 (F := Ideal) (ix2 i j) = if i = j then 1 else 0 := v5_ap i j

/-- The mask off the diagonal. -/
theorem v7_ap : val_main_v7 (F := Ideal) (ix2 i j) = 1 - if i = j then 1 else 0 := by
  pointwise [val_main_v7, val_main_v6, val_main_cst, v5_ap]

/-- The mask off the diagonal, the column against the row. -/
theorem v7_ap' : val_main_v7 (F := Ideal) (ix2 i j) = 1 - if j = i then 1 else 0 := by
  rw [v7_ap]
  congr 1
  exact if_congr eq_comm rfl rfl

/-- The reference's normalised image features. -/
theorem v11_ap (d : Fin 256) : val_main_v11 (F := Ideal) x0 (ix2 i d)
    = rN (fun l => x0 (ix2 i l)) (Consts.floor : EReal) d := by
  pointwise [val_main_v11, val_main_v10, val_main_v9, val_main_call1_v1, val_main_call1_v0, id_eq, val_main_cst_0,
    val_main_v8, val_main_call0_v2, val_main_call0_v1, val_main_call0_v0, val_main_call0_cst, Consts.ofBits_floor]
  rfl

/-- The reference's normalised text features. -/
theorem v15_ap (d : Fin 256) : val_main_v15 (F := Ideal) x1 (ix2 i d)
    = rN (fun l => x1 (ix2 i l)) (Consts.floor : EReal) d := by
  pointwise [val_main_v15, val_main_v14, val_main_v13, val_main_call3_v1, val_main_call3_v0, id_eq, val_main_cst_1,
    val_main_v12, val_main_call2_v2, val_main_call2_v1, val_main_call2_v0, val_main_call2_cst, Consts.ofBits_floor]
  rfl

/-- The reference's similarities. -/
theorem v16_ap : val_main_v16 (F := Ideal) x0 x1 (ix2 i j)
    = ∑ d : Fin 256, val_main_v11 (F := Ideal) x0 (ix2 i d) * val_main_v15 (F := Ideal) x1 (ix2 j d) := by
  pointwise [val_main_v16]

/-- The reference's diagonal: the row of similarities summed against the mask is its diagonal entry. -/
theorem v24_ap : val_main_v24 (F := Ideal) x0 x1 (ix1 i) = val_main_v16 (F := Ideal) x0 x1 (ix2 i i) := by
  pointwise [val_main_v24, val_main_v23, val_main_cst_3, v22_ap]
  simp only [mul_ite, mul_one, mul_zero, Finset.sum_ite_eq, Finset.mem_univ, if_true]

/-- The differences of an image's similarities to its own. -/
theorem v27_ap : val_main_v27 (F := Ideal) x0 x1 (ix2 i j)
    = val_main_v16 (F := Ideal) x0 x1 (ix2 i j) - val_main_v24 (F := Ideal) x0 x1 (ix1 i) := by
  pointwise [val_main_v27, val_main_v26, val_main_v25]

/-- The differences of a text's similarities to its own. -/
theorem v30_ap : val_main_v30 (F := Ideal) x0 x1 (ix2 i j)
    = val_main_v16 (F := Ideal) x0 x1 (ix2 i j) - val_main_v24 (F := Ideal) x0 x1 (ix1 j) := by
  pointwise [val_main_v30, val_main_v29, val_main_v28]

/-- Where the identifiers count the rows, a lookup of the state reads its first rows. -/
theorem v37_ap (hids : ∀ p : Fin 1024, x2 (ix1 p) = BitVec.ofNat 32 p.val) :
    val_main_v37 (F := Ideal) x2 x (ix1 i) = x (ix1 ⟨i.val, by omega⟩) := by
  refine Routing.take_ap _ rfl rfl rfl rfl x _ i (k := i.val) (by omega) (by omega) ?_
  pointwise [val_main_v36, val_main_v35, val_main_v34, val_main_v33, val_main_v32, val_main_v31, val_main_c_4,
    val_main_c_5]
  rw [Routing.wrap_of_lt]
  · exact hids i
  · have h := congrArg BitVec.toNat (hids i)
    have hi := i.isLt
    refine lt_of_eq_of_lt h ?_
    rw [BitVec.toNat_ofNat]
    omega

/-- The lookup of the text temperatures is the lookup of the image temperatures, of another array. -/
theorem v44_eq : val_main_v44 (F := Ideal) x2 x = val_main_v37 (F := Ideal) x2 x := rfl

/-- The lookup of the old image maxima is the lookup of the image temperatures, of another array. -/
theorem v57_eq : val_main_v57 (F := Ideal) x2 x = val_main_v37 (F := Ideal) x2 x := rfl

/-- The lookup of the old text maxima is the lookup of the image temperatures, of another array. -/
theorem v70_eq : val_main_v70 (F := Ideal) x2 x = val_main_v37 (F := Ideal) x2 x := rfl

/-- The lookup of the old image normalisers is the lookup of the image temperatures, of another array. -/
theorem v97_eq : val_main_v97 (F := Ideal) x2 x = val_main_v37 (F := Ideal) x2 x := rfl

/-- The lookup of the old text normalisers is the lookup of the image temperatures, of another array. -/
theorem v113_eq : val_main_v113 (F := Ideal) x2 x = val_main_v37 (F := Ideal) x2 x := rfl

/-- The lookup of the old image averages is the lookup of the image temperatures, of another array. -/
theorem v172_eq : val_main_v172 (F := Ideal) x2 x = val_main_v37 (F := Ideal) x2 x := rfl

/-- The lookup of the old text averages is the lookup of the image temperatures, of another array. -/
theorem v186_eq : val_main_v186 (F := Ideal) x2 x = val_main_v37 (F := Ideal) x2 x := rfl

/-- The old image maxima repeated along a row. -/
theorem v61_ap : val_main_v61 (F := Ideal) x2 x (ix2 i j) = val_main_v57 (F := Ideal) x2 x (ix1 i) := by
  pointwise [val_main_v61, val_main_v60, val_main_v59, val_main_v58]

/-- The old text maxima repeated along a column. -/
theorem v74_ap : val_main_v74 (F := Ideal) x2 x (ix2 i j) = val_main_v70 (F := Ideal) x2 x (ix1 j) := by
  pointwise [val_main_v74, val_main_v73, val_main_v72, val_main_v71]

end Cert.RefRead

end
-- ==== Proof.RefImage.lean ====
/-
  The reference's values of an image, read at an index: the reference's form of one column.
-/
module

public import proofs.«01_k».proof.Proof.Column
public import proofs.«01_k».proof.Proof.Consts
public import proofs.«01_k».proof.Proof.Gen.ReferenceIdeal.Read
public import Idealize.ShloMosaic.Lib.Pointwise
public import proofs.«01_k».proof.Proof.RefRows

@[expose] public section

noncomputable section

namespace Cert.RefRead

open Idealize.ShloMosaic Idealize.ShloMosaic.Pointwise Cert.ReferenceIdeal Cert.ReferenceIdeal.Gen
open Cert.ReferenceIdeal.Read Cert.Column

variable (x0 x1 : FVec Ideal S1024x256 .f32) (x2 : IVec S1024 32) (i k : Fin 1024)
  (x3 x5 x7 x9 : FVec Ideal S1000000 .f32)

/-- The scaled differences of an image. -/
theorem v47_ap : val_main_v47 (F := Ideal) x0 x1 x2 x7 (ix2 i k)
    = rT (fun k => val_main_v16 (F := Ideal) x0 x1 (ix2 i k)) (val_main_v24 (F := Ideal) x0 x1 (ix1 i))
        (val_main_v37 (F := Ideal) x2 x7 (ix1 i)) k := by
  pointwise [val_main_v47, val_main_v46, val_main_v45, v27_ap]
  rfl

/-- The new running maximum of an image. -/
theorem v63_ap : val_main_v63 (F := Ideal) x0 x1 x2 x5 x7 (ix1 i)
    = rB (fun k => val_main_v16 (F := Ideal) x0 x1 (ix2 i k)) (val_main_v24 (F := Ideal) x0 x1 (ix1 i))
        (val_main_v37 (F := Ideal) x2 x7 (ix1 i))
        (val_main_v57 (F := Ideal) x2 x5 (ix1 i)) := by
  pointwise [val_main_v63, val_main_v62, val_main_cst_10, v61_ap, v47_ap]
  rw [Consts.ofBits_neg_inf]
  rfl

/-- The masked exponentials of an image. -/
theorem v81_ap : val_main_v81 (F := Ideal) x0 x1 x2 x5 x7 (ix2 i k)
    = rE (fun k => val_main_v16 (F := Ideal) x0 x1 (ix2 i k)) i (val_main_v24 (F := Ideal) x0 x1 (ix1 i))
        (val_main_v37 (F := Ideal) x2 x7 (ix1 i))
        (val_main_v57 (F := Ideal) x2 x5 (ix1 i)) k := by
  pointwise [val_main_v81, val_main_v80, val_main_v79, val_main_v78, val_main_v77, v47_ap, v63_ap, v7_ap']
  rfl

/-- The sum of the masked exponentials of an image. -/
theorem v87_ap : val_main_v87 (F := Ideal) x0 x1 x2 x5 x7 (ix1 i)
    = rG (fun k => val_main_v16 (F := Ideal) x0 x1 (ix2 i k)) i (val_main_v24 (F := Ideal) x0 x1 (ix1 i))
        (val_main_v37 (F := Ideal) x2 x7 (ix1 i))
        (val_main_v57 (F := Ideal) x2 x5 (ix1 i)) := by
  pointwise [val_main_v87, val_main_cst_14, v81_ap]
  rfl

/-- The sum of the masked exponentials of an image, kept two-dimensional. -/
theorem v88_ap : val_main_v88 (F := Ideal) x0 x1 x2 x5 x7 (ix2 i (0 : Fin 1))
    = rG (fun k => val_main_v16 (F := Ideal) x0 x1 (ix2 i k)) i (val_main_v24 (F := Ideal) x0 x1 (ix1 i))
        (val_main_v37 (F := Ideal) x2 x7 (ix1 i))
        (val_main_v57 (F := Ideal) x2 x5 (ix1 i)) := by
  pointwise [val_main_v88, v87_ap]

/-- The new normaliser of an image. -/
theorem v106_ap : val_main_v106 (F := Ideal) x0 x1 x2 x3 x5 x7 (ix1 i)
    = rS (fun k => val_main_v16 (F := Ideal) x0 x1 (ix2 i k)) i (val_main_v24 (F := Ideal) x0 x1 (ix1 i))
        (val_main_v37 (F := Ideal) x2 x7 (ix1 i))
        (val_main_v57 (F := Ideal) x2 x5 (ix1 i)) (Ideal.ofBits .f32 0x3DCCCCCD#32) (Ideal.ofBits .f32 0x3F666666#32) (val_main_v97 (F := Ideal) x2 x3 (ix1 i)) := by
  pointwise [val_main_v106, val_main_v105, val_main_v104, val_main_cst_19, val_main_v103, val_main_v102, val_main_v101, val_main_v100, val_main_v99, val_main_v98, val_main_cst_18, v88_ap, v63_ap]
  rfl

/-- The weights of an image. -/
theorem v128_ap : val_main_v128 (F := Ideal) x0 x1 x2 x3 x5 x7 (ix2 i k)
    = rW (fun k => val_main_v16 (F := Ideal) x0 x1 (ix2 i k)) i (val_main_v24 (F := Ideal) x0 x1 (ix1 i))
        (val_main_v37 (F := Ideal) x2 x7 (ix1 i))
        (val_main_v57 (F := Ideal) x2 x5 (ix1 i)) (Ideal.ofBits .f32 0x3DCCCCCD#32) (Ideal.ofBits .f32 0x3F666666#32) (Ideal.ofBits .f32 0x283424DC#32)
        (val_main_v97 (F := Ideal) x2 x3 (ix1 i)) k := by
  pointwise [val_main_v128, val_main_v127, val_main_v124, val_main_call4_v1, val_main_call4_v0, id_eq, val_main_cst_24, val_main_v123, v106_ap, v81_ap]
  rfl

/-- The loss of an image. -/
theorem v133_ap : val_main_v133 (F := Ideal) x0 x1 x2 x3 x5 x7 (ix2 i (0 : Fin 1))
    = rL (fun k => val_main_v16 (F := Ideal) x0 x1 (ix2 i k)) i (val_main_v24 (F := Ideal) x0 x1 (ix1 i))
        (val_main_v37 (F := Ideal) x2 x7 (ix1 i))
        (val_main_v57 (F := Ideal) x2 x5 (ix1 i)) (Ideal.ofBits .f32 0x3DCCCCCD#32) (Ideal.ofBits .f32 0x3F666666#32) (Ideal.ofBits .f32 0x283424DC#32)
        (val_main_v97 (F := Ideal) x2 x3 (ix1 i)) := by
  pointwise [val_main_v133, val_main_v132, val_main_v131, val_main_cst_26, v128_ap, v27_ap]
  rfl

/-- The temperature gradient of an image. -/
theorem v154_ap : val_main_v154 (F := Ideal) x0 x1 x2 x3 x5 x7 (ix2 i (0 : Fin 1))
    = rD (fun k => val_main_v16 (F := Ideal) x0 x1 (ix2 i k)) i (val_main_v24 (F := Ideal) x0 x1 (ix1 i))
        (val_main_v37 (F := Ideal) x2 x7 (ix1 i))
        (val_main_v57 (F := Ideal) x2 x5 (ix1 i)) (Ideal.ofBits .f32 0x3DCCCCCD#32) (Ideal.ofBits .f32 0x3F666666#32) (Ideal.ofBits .f32 0x283424DC#32)
        (Ideal.ofBits .f32 0x40C00000#32) (Ideal.ofBits .f32 0x447FC000#32) (val_main_v97 (F := Ideal) x2 x3 (ix1 i)) := by
  pointwise [val_main_v154, val_main_v153, val_main_v152, val_main_cst_36, val_main_v151, val_main_v150, val_main_v149, val_main_cst_35, val_main_v148, val_main_v147, val_main_cst_34, val_main_v146, val_main_v145, val_main_v144, val_main_v124, val_main_call4_v1, val_main_call4_v0, id_eq, val_main_cst_24, val_main_v123, v106_ap, v63_ap, v128_ap, v47_ap]
  rfl

/-- The new average gradient of an image. -/
theorem v179_ap : val_main_v179 (F := Ideal) x0 x1 x2 x3 x5 x7 x9 (ix1 i)
    = Ideal.ofBits .f32 0x3DCCCCCD#32 * val_main_v172 (F := Ideal) x2 x9 (ix1 i)
      + Ideal.ofBits .f32 0x3F666666#32
        * min (Ideal.ofBits .f32 0x40A00000#32)
          (max (Ideal.ofBits .f32 0xC0A00000#32) (val_main_v154 (F := Ideal) x0 x1 x2 x3 x5 x7 (ix2 i (0 : Fin 1)))) := by
  pointwise [val_main_v179, val_main_v178, val_main_v177, val_main_cst_45, val_main_v176, val_main_call6_v4, val_main_call6_v3, val_main_cst_44, val_main_call6_v2, val_main_call6_v1, val_main_call6_v0, val_main_cst_43, id_eq, val_main_v175, val_main_v174, val_main_v173, val_main_cst_42]

/-- A result row of an image. -/
theorem v202_ap : val_main_v202 (F := Ideal) x0 x1 x2 x5 x7 (ix2 (0 : Fin 1) i)
    = val_main_v88 (F := Ideal) x0 x1 x2 x5 x7 (ix2 i (0 : Fin 1)) := by
  pointwise [val_main_v202]

/-- A result row of an image. -/
theorem v203_ap : val_main_v203 (F := Ideal) x0 x1 x2 x3 x5 x7 (ix2 (0 : Fin 1) i)
    = val_main_v154 (F := Ideal) x0 x1 x2 x3 x5 x7 (ix2 i (0 : Fin 1)) := by
  pointwise [val_main_v203]

/-- A result row of an image. -/
theorem v204_ap : val_main_v204 (F := Ideal) x0 x1 x2 x3 x5 x7 (ix2 (0 : Fin 1) i)
    = val_main_v106 (F := Ideal) x0 x1 x2 x3 x5 x7 (ix1 i) := by
  pointwise [val_main_v204]

/-- A result row of an image. -/
theorem v206_ap : val_main_v206 (F := Ideal) x0 x1 x2 x3 x5 x7 x9 (ix2 (0 : Fin 1) i)
    = val_main_v179 (F := Ideal) x0 x1 x2 x3 x5 x7 x9 (ix1 i) := by
  pointwise [val_main_v206]

end Cert.RefRead

end
-- ==== Proof.RefText.lean ====
/-
  The reference's values of a text, read at an index: the reference's form of one column.
-/
module

public import proofs.«01_k».proof.Proof.Column
public import proofs.«01_k».proof.Proof.Consts
public import proofs.«01_k».proof.Proof.Gen.ReferenceIdeal.Read
public import Idealize.ShloMosaic.Lib.Pointwise
public import proofs.«01_k».proof.Proof.RefRows

@[expose] public section

noncomputable section

namespace Cert.RefRead

open Idealize.ShloMosaic Idealize.ShloMosaic.Pointwise Cert.ReferenceIdeal Cert.ReferenceIdeal.Gen
open Cert.ReferenceIdeal.Read Cert.Column

variable (x0 x1 : FVec Ideal S1024x256 .f32) (x2 : IVec S1024 32) (i k : Fin 1024)
  (x4 x6 x8 x10 : FVec Ideal S1000000 .f32)

/-- The scaled differences of a text. -/
theorem v50_ap : val_main_v50 (F := Ideal) x0 x1 x2 x8 (ix2 k i)
    = rT (fun k => val_main_v16 (F := Ideal) x0 x1 (ix2 k i)) (val_main_v24 (F := Ideal) x0 x1 (ix1 i))
        (val_main_v44 (F := Ideal) x2 x8 (ix1 i)) k := by
  pointwise [val_main_v50, val_main_v49, val_main_v48, v30_ap]
  rfl

/-- The new running maximum of a text. -/
theorem v76_ap : val_main_v76 (F := Ideal) x0 x1 x2 x6 x8 (ix1 i)
    = rB (fun k => val_main_v16 (F := Ideal) x0 x1 (ix2 k i)) (val_main_v24 (F := Ideal) x0 x1 (ix1 i))
        (val_main_v44 (F := Ideal) x2 x8 (ix1 i))
        (val_main_v70 (F := Ideal) x2 x6 (ix1 i)) := by
  pointwise [val_main_v76, val_main_v75, val_main_cst_13, v74_ap, v50_ap]
  rw [Consts.ofBits_neg_inf]
  rfl

/-- The masked exponentials of a text. -/
theorem v86_ap : val_main_v86 (F := Ideal) x0 x1 x2 x6 x8 (ix2 k i)
    = rE (fun k => val_main_v16 (F := Ideal) x0 x1 (ix2 k i)) i (val_main_v24 (F := Ideal) x0 x1 (ix1 i))
        (val_main_v44 (F := Ideal) x2 x8 (ix1 i))
        (val_main_v70 (F := Ideal) x2 x6 (ix1 i)) k := by
  pointwise [val_main_v86, val_main_v85, val_main_v84, val_main_v83, val_main_v82, v50_ap, v76_ap, v7_ap]
  rfl

/-- The sum of the masked exponentials of a text. -/
theorem v89_ap : val_main_v89 (F := Ideal) x0 x1 x2 x6 x8 (ix1 i)
    = rG (fun k => val_main_v16 (F := Ideal) x0 x1 (ix2 k i)) i (val_main_v24 (F := Ideal) x0 x1 (ix1 i))
        (val_main_v44 (F := Ideal) x2 x8 (ix1 i))
        (val_main_v70 (F := Ideal) x2 x6 (ix1 i)) := by
  pointwise [val_main_v89, val_main_cst_15, v86_ap]
  rfl

/-- The sum of the masked exponentials of a text, kept two-dimensional. -/
theorem v90_ap : val_main_v90 (F := Ideal) x0 x1 x2 x6 x8 (ix2 (0 : Fin 1) i)
    = rG (fun k => val_main_v16 (F := Ideal) x0 x1 (ix2 k i)) i (val_main_v24 (F := Ideal) x0 x1 (ix1 i))
        (val_main_v44 (F := Ideal) x2 x8 (ix1 i))
        (val_main_v70 (F := Ideal) x2 x6 (ix1 i)) := by
  pointwise [val_main_v90, v89_ap]

/-- The new normaliser of a text. -/
theorem v122_ap : val_main_v122 (F := Ideal) x0 x1 x2 x4 x6 x8 (ix1 i)
    = rS (fun k => val_main_v16 (F := Ideal) x0 x1 (ix2 k i)) i (val_main_v24 (F := Ideal) x0 x1 (ix1 i))
        (val_main_v44 (F := Ideal) x2 x8 (ix1 i))
        (val_main_v70 (F := Ideal) x2 x6 (ix1 i)) (Ideal.ofBits .f32 0x3DCCCCCD#32) (Ideal.ofBits .f32 0x3F666666#32) (val_main_v113 (F := Ideal) x2 x4 (ix1 i)) := by
  pointwise [val_main_v122, val_main_v121, val_main_v120, val_main_cst_23, val_main_v119, val_main_v118, val_main_v117, val_main_v116, val_main_v115, val_main_v114, val_main_cst_22, v90_ap, v76_ap]
  rfl

/-- The weights of a text. -/
theorem v130_ap : val_main_v130 (F := Ideal) x0 x1 x2 x4 x6 x8 (ix2 k i)
    = rW (fun k => val_main_v16 (F := Ideal) x0 x1 (ix2 k i)) i (val_main_v24 (F := Ideal) x0 x1 (ix1 i))
        (val_main_v44 (F := Ideal) x2 x8 (ix1 i))
        (val_main_v70 (F := Ideal) x2 x6 (ix1 i)) (Ideal.ofBits .f32 0x3DCCCCCD#32) (Ideal.ofBits .f32 0x3F666666#32) (Ideal.ofBits .f32 0x283424DC#32)
        (val_main_v113 (F := Ideal) x2 x4 (ix1 i)) k := by
  pointwise [val_main_v130, val_main_v129, val_main_v126, val_main_call5_v1, val_main_call5_v0, id_eq, val_main_cst_25, val_main_v125, v122_ap, v86_ap]
  rfl

/-- The loss of a text. -/
theorem v136_ap : val_main_v136 (F := Ideal) x0 x1 x2 x4 x6 x8 (ix2 (0 : Fin 1) i)
    = rL (fun k => val_main_v16 (F := Ideal) x0 x1 (ix2 k i)) i (val_main_v24 (F := Ideal) x0 x1 (ix1 i))
        (val_main_v44 (F := Ideal) x2 x8 (ix1 i))
        (val_main_v70 (F := Ideal) x2 x6 (ix1 i)) (Ideal.ofBits .f32 0x3DCCCCCD#32) (Ideal.ofBits .f32 0x3F666666#32) (Ideal.ofBits .f32 0x283424DC#32)
        (val_main_v113 (F := Ideal) x2 x4 (ix1 i)) := by
  pointwise [val_main_v136, val_main_v135, val_main_v134, val_main_cst_27, v130_ap, v30_ap]
  rfl

/-- The temperature gradient of a text. -/
theorem v165_ap : val_main_v165 (F := Ideal) x0 x1 x2 x4 x6 x8 (ix2 (0 : Fin 1) i)
    = rD (fun k => val_main_v16 (F := Ideal) x0 x1 (ix2 k i)) i (val_main_v24 (F := Ideal) x0 x1 (ix1 i))
        (val_main_v44 (F := Ideal) x2 x8 (ix1 i))
        (val_main_v70 (F := Ideal) x2 x6 (ix1 i)) (Ideal.ofBits .f32 0x3DCCCCCD#32) (Ideal.ofBits .f32 0x3F666666#32) (Ideal.ofBits .f32 0x283424DC#32)
        (Ideal.ofBits .f32 0x40C00000#32) (Ideal.ofBits .f32 0x447FC000#32) (val_main_v113 (F := Ideal) x2 x4 (ix1 i)) := by
  pointwise [val_main_v165, val_main_v164, val_main_v163, val_main_cst_39, val_main_v162, val_main_v161, val_main_v160, val_main_cst_38, val_main_v159, val_main_v158, val_main_cst_37, val_main_v157, val_main_v156, val_main_v155, val_main_v126, val_main_call5_v1, val_main_call5_v0, id_eq, val_main_cst_25, val_main_v125, v122_ap, v76_ap, v130_ap, v50_ap]
  rfl

/-- The new average gradient of a text. -/
theorem v193_ap : val_main_v193 (F := Ideal) x0 x1 x2 x4 x6 x8 x10 (ix1 i)
    = Ideal.ofBits .f32 0x3DCCCCCD#32 * val_main_v186 (F := Ideal) x2 x10 (ix1 i)
      + Ideal.ofBits .f32 0x3F666666#32
        * min (Ideal.ofBits .f32 0x40A00000#32)
          (max (Ideal.ofBits .f32 0xC0A00000#32) (val_main_v165 (F := Ideal) x0 x1 x2 x4 x6 x8 (ix2 (0 : Fin 1) i))) := by
  pointwise [val_main_v193, val_main_v192, val_main_v191, val_main_cst_51, val_main_v190, val_main_call7_v4, val_main_call7_v3, val_main_cst_50, val_main_call7_v2, val_main_call7_v1, val_main_call7_v0, val_main_cst_49, id_eq, val_main_v189, val_main_v188, val_main_v187, val_main_cst_48]

/-- A result row of a text. -/
theorem v205_ap : val_main_v205 (F := Ideal) x0 x1 x2 x4 x6 x8 (ix2 (0 : Fin 1) i)
    = val_main_v122 (F := Ideal) x0 x1 x2 x4 x6 x8 (ix1 i) := by
  pointwise [val_main_v205]

/-- A result row of a text. -/
theorem v207_ap : val_main_v207 (F := Ideal) x0 x1 x2 x4 x6 x8 x10 (ix2 (0 : Fin 1) i)
    = val_main_v193 (F := Ideal) x0 x1 x2 x4 x6 x8 x10 (ix1 i) := by
  pointwise [val_main_v207]

end Cert.RefRead

end
-- ==== Proof.RefScalars.lean ====
/-
  The reference's row of scalars, read at an index.
-/
module

public import proofs.«01_k».proof.Proof.Column
public import proofs.«01_k».proof.Proof.Consts
public import proofs.«01_k».proof.Proof.Gen.ReferenceIdeal.Read
public import Idealize.ShloMosaic.Lib.Pointwise
public import proofs.«01_k».proof.Proof.RefRows

@[expose] public section

noncomputable section

namespace Cert.RefRead

open Idealize.ShloMosaic Idealize.ShloMosaic.Pointwise Cert.ReferenceIdeal Cert.ReferenceIdeal.Gen
open Cert.ReferenceIdeal.Read Cert.Column

variable (x0 x1 : FVec Ideal S1024x256 .f32) (x2 : IVec S1024 32) (x3 x4 x5 x6 x7 x8 : FVec Ideal S1000000 .f32)

/-- The mean of the image losses and of the text losses, half of each. -/
theorem v143_ap : val_main_v143 (F := Ideal) x0 x1 x2 x3 x4 x5 x6 x7 x8 ix0
    = Ideal.ofBits .f32 0x3F000000#32
        * Ideal.div (∑ k : Fin 1024, val_main_v133 (F := Ideal) x0 x1 x2 x3 x5 x7 (ix2 k (0 : Fin 1)))
          (Ideal.ofBits .f32 0x44800000#32)
      + Ideal.ofBits .f32 0x3F000000#32
        * Ideal.div (∑ k : Fin 1024, val_main_v136 (F := Ideal) x0 x1 x2 x4 x6 x8 (ix2 (0 : Fin 1) k))
          (Ideal.ofBits .f32 0x44800000#32) := by
  pointwise [val_main_v143, val_main_v142, val_main_v141, val_main_v140, val_main_v139, val_main_v138, val_main_v137,
    val_main_cst_28, val_main_cst_29, val_main_cst_30, val_main_cst_31, val_main_cst_32, val_main_cst_33]
  simp only [Finset.univ_unique, Finset.sum_singleton]
  rfl

/-- The mean of the image temperatures. -/
theorem v195_ap : val_main_v195 (F := Ideal) x2 x7 ix0
    = Ideal.div (∑ k : Fin 1024, val_main_v37 (F := Ideal) x2 x7 (ix1 k)) (Ideal.ofBits .f32 0x44800000#32) := by
  pointwise [val_main_v195, val_main_v194, val_main_cst_52, val_main_cst_53]

/-- The mean of the text temperatures. -/
theorem v197_ap : val_main_v197 (F := Ideal) x2 x8 ix0
    = Ideal.div (∑ k : Fin 1024, val_main_v44 (F := Ideal) x2 x8 (ix1 k)) (Ideal.ofBits .f32 0x44800000#32) := by
  pointwise [val_main_v197, val_main_v196, val_main_cst_54, val_main_cst_55]

/-- The row of scalars: the loss at lane zero, the mean image temperature at lane one, the mean text temperature after. -/
theorem v201_ap (l : Fin 128) : val_main_v201 (F := Ideal) x0 x1 x2 x3 x4 x5 x6 x7 x8 (ix2 (0 : Fin 1) l)
    = if l.val < 1 then val_main_v143 (F := Ideal) x0 x1 x2 x3 x4 x5 x6 x7 x8 ix0
      else if l.val < 2 then val_main_v195 (F := Ideal) x2 x7 ix0 else val_main_v197 (F := Ideal) x2 x8 ix0 := by
  pointwise [val_main_v201, val_main_v200, val_main_v199, val_main_v198]
  split_ifs <;> first | rfl | (exfalso; omega)

end Cert.RefRead

end
-- ==== Proof.Equation.lean ====
/-
  The two programs' results are the same arrays, where the identifiers count the rows and the temperatures of the batch
  are positive and finite.
-/
module

public import proofs.«01_k».proof.Proof.KernelRows
public import proofs.«01_k».proof.Proof.KernelImage
public import proofs.«01_k».proof.Proof.KernelText
public import proofs.«01_k».proof.Proof.KernelScalars
public import proofs.«01_k».proof.Proof.KernelOut
public import proofs.«01_k».proof.Proof.RefImage
public import proofs.«01_k».proof.Proof.RefText
public import proofs.«01_k».proof.Proof.RefScalars

@[expose] public section

noncomputable section

namespace Cert.Equation

open Idealize.ShloMosaic Idealize.ShloMosaic.Pointwise Cert.KernelIdeal Cert.KernelIdeal.Gen
open Cert.ReferenceIdeal.Read Cert.KernelRead Cert.RefRead Cert.KernelOut Cert.Column

/-- An extended real strictly between zero and the top is a positive real. -/
theorem exists_pos {y : EReal} (h0 : 0 < y) (h1 : y < ⊤) : ∃ t : ℝ, 0 < t ∧ y = t := by
  induction y with
  | bot => simp at h0
  | top => simp at h1
  | coe t => exact ⟨t, by exact_mod_cast h0, rfl⟩

variable (x0 x1 : FVec Ideal S1024x256 .f32)

/-- The similarities are real, and the same in both programs, whatever the features. -/
theorem exists_sims : ∃ r : Fin 1024 → Fin 1024 → ℝ, ∀ i k : Fin 1024,
    k0_pay4 (F := Ideal) x0 x1 (ix2 i k) = r i k ∧ k0_pay5 (F := Ideal) x0 x1 (ix2 k i) = r i k
      ∧ val_main_v16 (F := Ideal) x0 x1 (ix2 i k) = r i k := by
  choose z hz using fun (i : Fin 1024) (d : Fin 256) => exists_normalised (fun l => x0 (ix2 i l)) Consts.floor_pos d
  choose w hw using fun (i : Fin 1024) (d : Fin 256) => exists_normalised (fun l => x1 (ix2 i l)) Consts.floor_pos d
  refine ⟨fun i k => ∑ d, z i d * w k d, fun i k => ⟨?_, ?_, ?_⟩⟩
  · rw [pay4_ap, ← sum_coe]
    refine Finset.sum_congr rfl fun d _ => ?_
    rw [pay2_ap, pay3_ap, (hz i d).1, (hw k d).1, EReal.coe_mul]
  · rw [pay5_ap, ← sum_coe]
    refine Finset.sum_congr rfl fun d _ => ?_
    rw [pay2_ap, pay3_ap, (hz i d).1, (hw k d).1, EReal.coe_mul, mul_comm]
  · rw [v16_ap, ← sum_coe]
    refine Finset.sum_congr rfl fun d _ => ?_
    rw [v11_ap, v15_ap, (hz i d).2, (hw k d).2, EReal.coe_mul]

/-- The kernel's diagonal is the diagonal of its similarities. -/
theorem pay6_eq (j : Fin 1024) : k0_pay6 (F := Ideal) x0 x1 (ix2 (0 : Fin 1) j) = k0_pay4 (F := Ideal) x0 x1 (ix2 j j) := by
  rw [pay6_ap, pay4_ap]

variable (x2 : IVec S1024 32) (x3 x4 x5 x6 x7 x8 x9 x10 : FVec Ideal S1000000 .f32)

/-- What the precondition says: the identifiers count the rows, and the batch's temperatures are positive and finite. -/
def Ready : Prop := ∀ p : Fin 1024, x2 (ix1 p) = BitVec.ofNat 32 p.val
  ∧ (0 < x7 (ix1 ⟨p.val, by omega⟩) ∧ x7 (ix1 ⟨p.val, by omega⟩) < ⊤)
  ∧ (0 < x8 (ix1 ⟨p.val, by omega⟩) ∧ x8 (ix1 ⟨p.val, by omega⟩) < ⊤)

variable {x2 x7 x8}

/-- A lookup of the reference is the entry of the kernel's block. -/
theorem lookup (h : Ready x2 x7 x8) (x : FVec Ideal S1000000 .f32) (i : Fin 1024) :
    val_main_v37 (F := Ideal) x2 x (ix1 i) = lead (F := Ideal) x (ix1 i) := by
  rw [v37_ap _ _ _ fun p => (h p).1, lead_ap]

/-- One image: its similarities, its diagonal and its temperature, real and the same in both programs. -/
theorem image_data (h : Ready x2 x7 x8) (i : Fin 1024) : ∃ (x : Fin 1024 → ℝ) (t : ℝ), 0 < t
    ∧ (fun k => k0_pay5 (F := Ideal) x0 x1 (ix2 k i)) = (fun k => (x k : EReal))
    ∧ k0_pay6 (F := Ideal) x0 x1 (ix2 (0 : Fin 1) i) = (x i : EReal)
    ∧ lead (F := Ideal) x7 (ix1 i) = (t : EReal)
    ∧ (fun k => val_main_v16 (F := Ideal) x0 x1 (ix2 i k)) = (fun k => (x k : EReal))
    ∧ val_main_v24 (F := Ideal) x0 x1 (ix1 i) = (x i : EReal)
    ∧ val_main_v37 (F := Ideal) x2 x7 (ix1 i) = (t : EReal) := by
  obtain ⟨r, hr⟩ := exists_sims x0 x1
  obtain ⟨t, ht, htt⟩ := exists_pos (h i).2.1.1 (h i).2.1.2
  refine ⟨r i, t, ht, funext fun k => (hr i k).2.1, ?_, ?_, funext fun k => (hr i k).2.2, ?_, ?_⟩
  · rw [pay6_eq, (hr i i).1]
  · rw [lead_ap, htt]
  · rw [v24_ap, (hr i i).2.2]
  · rw [lookup h, lead_ap, htt]

/-- One text: its similarities, its diagonal and its temperature, real and the same in both programs. -/
theorem text_data (h : Ready x2 x7 x8) (j : Fin 1024) : ∃ (x : Fin 1024 → ℝ) (t : ℝ), 0 < t
    ∧ (fun k => k0_pay4 (F := Ideal) x0 x1 (ix2 k j)) = (fun k => (x k : EReal))
    ∧ k0_pay6 (F := Ideal) x0 x1 (ix2 (0 : Fin 1) j) = (x j : EReal)
    ∧ lead (F := Ideal) x8 (ix1 j) = (t : EReal)
    ∧ (fun k => val_main_v16 (F := Ideal) x0 x1 (ix2 k j)) = (fun k => (x k : EReal))
    ∧ val_main_v24 (F := Ideal) x0 x1 (ix1 j) = (x j : EReal)
    ∧ val_main_v44 (F := Ideal) x2 x8 (ix1 j) = (t : EReal) := by
  obtain ⟨r, hr⟩ := exists_sims x0 x1
  obtain ⟨t, ht, htt⟩ := exists_pos (h j).2.2.1 (h j).2.2.2
  refine ⟨fun k => r k j, t, ht, funext fun k => (hr k j).1, ?_, ?_, funext fun k => (hr k j).2.2, ?_, ?_⟩
  · rw [pay6_eq, (hr j j).1]
  · rw [lead_ap, htt]
  · rw [v24_ap, (hr j j).2.2]
  · rw [v44_eq, lookup h, lead_ap, htt]

/-- A row array is known by its entries. -/
theorem row_ext {n : Nat} {f g : (⟨2, ![1, n]⟩ : Shape).Idx → EReal}
    (h : ∀ i : Fin n, f (ix2 (0 : Fin 1) i) = g (ix2 (0 : Fin 1) i)) : f = g := by
  funext j
  have h0 : j 0 = (0 : Fin 1) := Subsingleton.elim (α := Fin 1) _ _
  rw [eq_ix2 j, h0]
  exact h (j 1)

/-! ## The images -/

/-- The sums off the diagonal of the images. -/
theorem gI_eq (h : Ready x2 x7 x8) :
    gI (F := Ideal) x0 x1 (lead x3) (lead x4) (lead x5) (lead x6) (lead x7) (lead x8) (lead x9) (lead x10)
      = val_main_v202 (F := Ideal) x0 x1 x2 x5 x7 := by
  refine row_ext fun i => ?_
  obtain ⟨x, t, ht, a1, a2, a3, b1, b2, b3⟩ := image_data x0 x1 h i
  rw [v202_ap, v88_ap, v57_eq, lookup h x5]
  unfold gI
  rw [pay21_ap, pay7_ap, pay9_ap, a1, a2, a3, b1, b2, b3]
  exact kG_eq ht _

/-- The temperature gradients of the images, before they are laid as a row. -/
theorem dI_ap (h : Ready x2 x7 x8) (i : Fin 1024) :
    dI (F := Ideal) x0 x1 (lead x3) (lead x4) (lead x5) (lead x6) (lead x7) (lead x8) (lead x9) (lead x10)
        (ix2 (0 : Fin 1) i)
      = val_main_v154 (F := Ideal) x0 x1 x2 x3 x5 x7 (ix2 i (0 : Fin 1)) := by
  obtain ⟨x, t, ht, a1, a2, a3, b1, b2, b3⟩ := image_data x0 x1 h i
  rw [v154_ap, v57_eq, v97_eq, lookup h x5, lookup h x3]
  unfold dI
  rw [pay26_ap, pay7_ap, pay9_ap, pay11_ap, a1, a2, a3, b1, b2, b3]
  exact kD_eq ht _ _ _ _ _ _ Consts.eps_pos

/-- The temperature gradients of the images. -/
theorem dI_eq (h : Ready x2 x7 x8) :
    dI (F := Ideal) x0 x1 (lead x3) (lead x4) (lead x5) (lead x6) (lead x7) (lead x8) (lead x9) (lead x10)
      = val_main_v203 (F := Ideal) x0 x1 x2 x3 x5 x7 :=
  row_ext fun i => by rw [v203_ap, dI_ap x0 x1 x3 x4 x5 x6 x9 x10 h]

/-- The new normalisers of the images. -/
theorem sI_eq (h : Ready x2 x7 x8) :
    sI (F := Ideal) x0 x1 (lead x3) (lead x4) (lead x5) (lead x6) (lead x7) (lead x8) (lead x9) (lead x10)
      = val_main_v204 (F := Ideal) x0 x1 x2 x3 x5 x7 := by
  refine row_ext fun i => ?_
  obtain ⟨x, t, ht, a1, a2, a3, b1, b2, b3⟩ := image_data x0 x1 h i
  rw [v204_ap, v106_ap, v57_eq, v97_eq, lookup h x5, lookup h x3]
  unfold sI
  rw [pay22_ap, pay7_ap, pay9_ap, pay11_ap, a1, a2, a3, b1, b2, b3]
  exact kS_eq ht _ _ _ _

/-- The losses of the images: the same reals. -/
theorem lI_ap (h : Ready x2 x7 x8) (i : Fin 1024) : ∃ l : ℝ,
    lI (F := Ideal) x0 x1 (lead x3) (lead x4) (lead x5) (lead x6) (lead x7) (lead x8) (lead x9) (lead x10)
        (ix2 (0 : Fin 1) i) = l
      ∧ val_main_v133 (F := Ideal) x0 x1 x2 x3 x5 x7 (ix2 i (0 : Fin 1)) = (l : EReal) := by
  obtain ⟨x, t, ht, a1, a2, a3, b1, b2, b3⟩ := image_data x0 x1 h i
  rw [v133_ap, v57_eq, v97_eq, lookup h x5, lookup h x3]
  unfold lI
  rw [pay25_ap, pay7_ap, pay9_ap, pay11_ap, a1, a2, a3, b1, b2, b3]
  exact exists_loss ht _ _ _ _ Consts.eps_pos

/-- The new average gradients of the images. -/
theorem uI_eq (h : Ready x2 x7 x8) :
    uI (F := Ideal) x0 x1 (lead x3) (lead x4) (lead x5) (lead x6) (lead x7) (lead x8) (lead x9) (lead x10)
      = val_main_v206 (F := Ideal) x0 x1 x2 x3 x5 x7 x9 := by
  refine row_ext fun i => ?_
  rw [v206_ap, v179_ap, v172_eq, lookup h, ← dI_ap x0 x1 x3 x4 x5 x6 x9 x10 h]
  unfold uI
  rw [pay42_ap, pay13_ap]

/-! ## The texts -/

/-- The sums off the diagonal of the texts. -/
theorem gT_eq (h : Ready x2 x7 x8) :
    gT (F := Ideal) x0 x1 (lead x3) (lead x4) (lead x5) (lead x6) (lead x7) (lead x8) (lead x9) (lead x10)
      = val_main_v90 (F := Ideal) x0 x1 x2 x6 x8 := by
  refine row_ext fun i => ?_
  obtain ⟨x, t, ht, a1, a2, a3, b1, b2, b3⟩ := text_data x0 x1 h i
  rw [v90_ap, v70_eq, lookup h x6]
  unfold gT
  rw [pay34_ap, pay8_ap, pay10_ap, a1, a2, a3, b1, b2, b3]
  exact kG_eq ht _

/-- The temperature gradients of the texts. -/
theorem dT_eq (h : Ready x2 x7 x8) :
    dT (F := Ideal) x0 x1 (lead x3) (lead x4) (lead x5) (lead x6) (lead x7) (lead x8) (lead x9) (lead x10)
      = val_main_v165 (F := Ideal) x0 x1 x2 x4 x6 x8 := by
  refine row_ext fun i => ?_
  obtain ⟨x, t, ht, a1, a2, a3, b1, b2, b3⟩ := text_data x0 x1 h i
  rw [v165_ap, v70_eq, v113_eq, lookup h x6, lookup h x4]
  unfold dT
  rw [pay39_ap, pay8_ap, pay10_ap, pay12_ap, a1, a2, a3, b1, b2, b3]
  exact kD_eq ht _ _ _ _ _ _ Consts.eps_pos

/-- The new normalisers of the texts. -/
theorem sT_eq (h : Ready x2 x7 x8) :
    sT (F := Ideal) x0 x1 (lead x3) (lead x4) (lead x5) (lead x6) (lead x7) (lead x8) (lead x9) (lead x10)
      = val_main_v205 (F := Ideal) x0 x1 x2 x4 x6 x8 := by
  refine row_ext fun i => ?_
  obtain ⟨x, t, ht, a1, a2, a3, b1, b2, b3⟩ := text_data x0 x1 h i
  rw [v205_ap, v122_ap, v70_eq, v113_eq, lookup h x6, lookup h x4]
  unfold sT
  rw [pay35_ap, pay8_ap, pay10_ap, pay12_ap, a1, a2, a3, b1, b2, b3]
  exact kS_eq ht _ _ _ _

/-- The losses of the texts: the same reals. -/
theorem lT_ap (h : Ready x2 x7 x8) (i : Fin 1024) : ∃ l : ℝ,
    lT (F := Ideal) x0 x1 (lead x3) (lead x4) (lead x5) (lead x6) (lead x7) (lead x8) (lead x9) (lead x10)
        (ix2 (0 : Fin 1) i) = l
      ∧ val_main_v136 (F := Ideal) x0 x1 x2 x4 x6 x8 (ix2 (0 : Fin 1) i) = (l : EReal) := by
  obtain ⟨x, t, ht, a1, a2, a3, b1, b2, b3⟩ := text_data x0 x1 h i
  rw [v136_ap, v70_eq, v113_eq, lookup h x6, lookup h x4]
  unfold lT
  rw [pay38_ap, pay8_ap, pay10_ap, pay12_ap, a1, a2, a3, b1, b2, b3]
  exact exists_loss ht _ _ _ _ Consts.eps_pos

/-- The new average gradients of the texts. -/
theorem uT_eq (h : Ready x2 x7 x8) :
    uT (F := Ideal) x0 x1 (lead x3) (lead x4) (lead x5) (lead x6) (lead x7) (lead x8) (lead x9) (lead x10)
      = val_main_v207 (F := Ideal) x0 x1 x2 x4 x6 x8 x10 := by
  refine row_ext fun i => ?_
  rw [v207_ap, v193_ap, v186_eq, lookup h, ← dT_eq x0 x1 x3 x4 x5 x6 x9 x10 h]
  unfold uT
  rw [pay43_ap, pay14_ap]

/-! ## The scalars -/

/-- The total loss. -/
theorem loss_eq (h : Ready x2 x7 x8) :
    k0_pay44 (F := Ideal)
        (lI (F := Ideal) x0 x1 (lead x3) (lead x4) (lead x5) (lead x6) (lead x7) (lead x8) (lead x9) (lead x10))
        (lT (F := Ideal) x0 x1 (lead x3) (lead x4) (lead x5) (lead x6) (lead x7) (lead x8) (lead x9) (lead x10))
      = val_main_v143 (F := Ideal) x0 x1 x2 x3 x4 x5 x6 x7 x8 ix0 := by
  have hI := lI_ap x0 x1 x3 x4 x5 x6 x9 x10 h
  have hT := lT_ap x0 x1 x3 x4 x5 x6 x9 x10 h
  rw [pay44_eq, v143_ap, mean_eq (fun k => ⟨_, (hI k).choose_spec.1⟩) (fun k => ⟨_, (hT k).choose_spec.1⟩)
    Consts.half_real Consts.rows_real]
  congr 3
  · exact Finset.sum_congr rfl fun k _ => (hI k).choose_spec.1.trans (hI k).choose_spec.2.symm
  · exact Finset.sum_congr rfl fun k _ => (hT k).choose_spec.1.trans (hT k).choose_spec.2.symm

/-- The row of scalars. -/
theorem sc_eq (h : Ready x2 x7 x8) :
    sc (F := Ideal) x0 x1 (lead x3) (lead x4) (lead x5) (lead x6) (lead x7) (lead x8) (lead x9) (lead x10)
      = val_main_v201 (F := Ideal) x0 x1 x2 x3 x4 x5 x6 x7 x8 := by
  refine row_ext fun l => ?_
  unfold sc
  rw [pay1_ap, v201_ap, loss_eq x0 x1 x3 x4 x5 x6 x9 x10 h, pay45_eq, pay46_eq, v195_ap, v197_ap]
  simp only [pay7_ap, pay8_ap, v44_eq, lookup h]

end Cert.Equation

end
-- ==== Proof.lean ====
/-
  The certificate's claims: the three frames, the two of them again under the precondition, the named constant, and the
  equality of the kernel's nine arrays and the reference's.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Pre
public import proofs.«01_k».proof.Proof.Equation

@[expose] public section

noncomputable section

namespace Cert.Proof

open Idealize.ShloMosaic Idealize.ShloMosaic.StableHlo Idealize.SL.Sem Cert.Equation Cert.KernelOut
open Cert.ReferenceIdeal.Read

/-- The kernel runs, keeps its arguments and leaves every counter at zero. -/
theorem frame_kernel : Cert.quiescent_Kernel := fun m ρ _ => Cert.Kernel.Gen.frame (F := Bits) m ρ

/-- The idealized kernel runs, keeps its arguments and leaves every counter at zero. -/
theorem frame_ideal : Cert.quiescent_KernelIdeal := fun m ρ _ => Cert.KernelIdeal.Gen.frame (F := Ideal) m ρ

/-- The idealized kernel's frame, for the arguments the precondition admits. -/
theorem frame_ideal_pre : Cert.quiescent_KernelIdeal_pre_batch_in_order (hPre_batch_in_order := Cert.Pre.facts) :=
  fun m ρ _ => frame_ideal m ρ trivial

/-- The reference runs and keeps its arguments; it declares no counter. -/
theorem frame_reference : Cert.quiescent_ReferenceIdeal := fun m ρ _ =>
  (θ_run Cert.ReferenceIdeal.defs _ _).mono
    (fun r h => ⟨fun c => (h c).2.2.2.2.2.2.2.2.2, sem_eq_zero_of_no_sems (by decide) r.2⟩)
    (Cert.ReferenceIdeal.Value.run (F := Ideal) m ρ)

/-- The reference's frame, for the arguments the precondition admits. -/
theorem frame_reference_pre :
    Cert.quiescent_ReferenceIdeal_pre_batch_in_order (hPre_batch_in_order := Cert.Pre.facts) :=
  fun m ρ _ => frame_reference m ρ trivial

/-- The kernel's floor under a squared norm is the named real the idealized kernel prints. -/
theorem preserves : Cert.preserves_Kernel_KernelIdeal :=
  IdealRules.named_const.statement Cert.KernelIdeal.κ "sq_floor" .f32 0x179ABE15#32 _ rfl

/-- The two programs end with the same nine arrays. -/
theorem algebraic :
    Cert.algebraic_KernelIdeal_ReferenceIdeal_pre_batch_in_order (hPre_batch_in_order := Cert.Pre.facts) := by
  intro m g m' g' hpre hagree
  refine ⟨fun c => res10 (F := Ideal) c m, fun c => res11 (F := Ideal) c m, fun c => res12 (F := Ideal) c m, fun c => res13 (F := Ideal) c m,
    fun c => res14 (F := Ideal) c m, fun c => res15 (F := Ideal) c m, fun c => res16 (F := Ideal) c m, fun c => res17 (F := Ideal) c m, fun c => res18 (F := Ideal) c m, ?_, ?_⟩
  · refine (θ_run Cert.KernelIdeal.defs _ _).mono (fun r h c => ?_)
      (Cert.KernelIdeal.Value.run_blocks (F := Ideal) m g)
    obtain ⟨h0, h1, h2, h3, h4, h5, h6, h7, h8, hargs⟩ := h c
    exact ⟨h0.trans (final10 c m), h1.trans (final11 c m), h2.trans (final12 c m),
      h3.trans (final13 c m), h4.trans (final14 c m), h5.trans (final15 c m),
      h6.trans (final16 c m), h7.trans (final17 c m), h8.trans (final18 c m), hargs⟩
  · refine (θ_run Cert.ReferenceIdeal.defs _ _).mono (fun r h c => ?_) (Cert.ReferenceIdeal.Value.run (F := Ideal) m' g')
    have hready := @Cert.Pre.decode Cert.Pre.facts _ _ _ _ _ _ _ _ _ _ _ (hpre c)
    obtain ⟨a0, a1, a2, a3, a4, a5, a6, a7, a8, a9, a10⟩ := hagree c
    obtain ⟨h0, h1, h2, h3, h4, h5, h6, h7, h8, hargs⟩ := h c
    have e0 := (launchContents_devRef m' c Cert.ReferenceIdeal.main_arg0).trans a0
    have e1 := (launchContents_devRef m' c Cert.ReferenceIdeal.main_arg1).trans a1
    have e2 := (launchContents_devRef m' c Cert.ReferenceIdeal.main_arg2).trans a2
    have e3 := (launchContents_devRef m' c Cert.ReferenceIdeal.main_arg3).trans a3
    have e4 := (launchContents_devRef m' c Cert.ReferenceIdeal.main_arg4).trans a4
    have e5 := (launchContents_devRef m' c Cert.ReferenceIdeal.main_arg5).trans a5
    have e6 := (launchContents_devRef m' c Cert.ReferenceIdeal.main_arg6).trans a6
    have e7 := (launchContents_devRef m' c Cert.ReferenceIdeal.main_arg7).trans a7
    have e8 := (launchContents_devRef m' c Cert.ReferenceIdeal.main_arg8).trans a8
    have e9 := (launchContents_devRef m' c Cert.ReferenceIdeal.main_arg9).trans a9
    have e10 := (launchContents_devRef m' c Cert.ReferenceIdeal.main_arg10).trans a10
    refine ⟨h0.trans ?_, h1.trans ?_, h2.trans ?_, h3.trans ?_, h4.trans ?_, h5.trans ?_, h6.trans ?_, h7.trans ?_, h8.trans ?_, hargs⟩
    · rw [val_main_v202_eq]
      rw [e0, e1, e2, e5, e7]
      exact (gI_eq _ _ _ _ _ _ _ _ hready).symm
    · rw [val_main_v90_eq]
      rw [e0, e1, e2, e6, e8]
      exact (gT_eq _ _ _ _ _ _ _ _ hready).symm
    · rw [val_main_v203_eq]
      rw [e0, e1, e2, e3, e5, e7]
      exact (dI_eq _ _ _ _ _ _ _ _ hready).symm
    · rw [val_main_v165_eq]
      rw [e0, e1, e2, e4, e6, e8]
      exact (dT_eq _ _ _ _ _ _ _ _ hready).symm
    · rw [val_main_v204_eq]
      rw [e0, e1, e2, e3, e5, e7]
      exact (sI_eq _ _ _ _ _ _ _ _ hready).symm
    · rw [val_main_v205_eq]
      rw [e0, e1, e2, e4, e6, e8]
      exact (sT_eq _ _ _ _ _ _ _ _ hready).symm
    · rw [val_main_v206_eq]
      rw [e0, e1, e2, e3, e5, e7, e9]
      exact (uI_eq _ _ _ _ _ _ _ _ hready).symm
    · rw [val_main_v207_eq]
      rw [e0, e1, e2, e4, e6, e8, e10]
      exact (uT_eq _ _ _ _ _ _ _ _ hready).symm
    · rw [val_main_v201_eq]
      rw [e0, e1, e2, e3, e4, e5, e6, e7, e8]
      exact (sc_eq _ _ _ _ _ _ _ _ hready).symm

/-- The certificate's claim. -/
theorem claim : Cert.Claim :=
  ⟨Cert.Kernel.Gen.facts, Cert.KernelIdeal.Gen.facts, Cert.ReferenceIdeal.Gen.facts, Cert.Pre.facts, frame_kernel,
    frame_ideal, frame_ideal_pre, frame_reference, frame_reference_pre, preserves, algebraic⟩

end Cert.Proof

end
